-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x64 : Shape := ⟨3, ![4, 2048, 64]⟩
abbrev S4x8192x64 : Shape := ⟨3, ![4, 8192, 64]⟩
abbrev S4x2048x10 : Shape := ⟨3, ![4, 2048, 10]⟩
abbrev S1x256x64 : Shape := ⟨3, ![1, 256, 64]⟩
abbrev S1x8192x64 : Shape := ⟨3, ![1, 8192, 64]⟩
abbrev S1x256x10 : Shape := ⟨3, ![1, 256, 10]⟩
abbrev S8192x64 : Shape := ⟨2, ![8192, 64]⟩
abbrev S256x8192 : Shape := ⟨2, ![256, 8192]⟩
abbrev S8192 : Shape := ⟨1, ![8192]⟩
abbrev S8192x1 : Shape := ⟨2, ![8192, 1]⟩
abbrev S256x64 : Shape := ⟨2, ![256, 64]⟩
abbrev S256 : Shape := ⟨1, ![256]⟩
abbrev S256x1 : Shape := ⟨2, ![256, 1]⟩
abbrev S32x128 : Shape := ⟨2, ![32, 128]⟩
abbrev S32 : Shape := ⟨1, ![32]⟩
abbrev S32x1 : Shape := ⟨2, ![32, 1]⟩
abbrev S1x32x128 : Shape := ⟨3, ![1, 32, 128]⟩
abbrev S1 : Shape := ⟨1, ![1]⟩
abbrev S1x1x1 : Shape := ⟨3, ![1, 1, 1]⟩
abbrev S32x10 : Shape := ⟨2, ![32, 10]⟩
abbrev S32x8192 : Shape := ⟨2, ![32, 8192]⟩
abbrev S1x32x10 : Shape := ⟨3, ![1, 32, 10]⟩
abbrev S81920 : Shape := ⟨1, ![81920]⟩
abbrev S4 : Shape := ⟨1, ![4]⟩
abbrev S4x20480 : Shape := ⟨2, ![4, 20480]⟩
abbrev S2048 : Shape := ⟨1, ![2048]⟩
abbrev S2048x10 : Shape := ⟨2, ![2048, 10]⟩
abbrev S20480 : Shape := ⟨1, ![20480]⟩
abbrev S1x20480 : Shape := ⟨2, ![1, 20480]⟩
abbrev S1x81920 : Shape := ⟨2, ![1, 81920]⟩
abbrev S3x81920 : Shape := ⟨2, ![3, 81920]⟩

abbrev nBuf : Space → Nat
  | .hbm => 19
  | .vmem => 10
  | .smem => 0
  | _ => 0

abbrev bufTy : (tb : Table) → Fin (tcTables nBuf tb) → BufTy
  | .hbm, ⟨0, _⟩ => ⟨S4x2048x64, .f32⟩
  | .hbm, ⟨1, _⟩ => ⟨S4x8192x64, .f32⟩
  | .hbm, ⟨2, _⟩ => ⟨S4x2048x10, .f32⟩
  | .hbm, ⟨3, _⟩ => ⟨S4x2048x10, .i32⟩
  | .hbm, ⟨4, _⟩ => ⟨S81920, .f32⟩
  | .hbm, ⟨5, _⟩ => ⟨S4, .i32⟩
  | .hbm, ⟨6, _⟩ => ⟨S4x20480, .i32⟩
  | .hbm, ⟨7, _⟩ => ⟨S81920, .i32⟩
  | .hbm, ⟨8, _⟩ => ⟨S2048, .i32⟩
  | .hbm, ⟨9, _⟩ => ⟨S2048x10, .i32⟩
  | .hbm, ⟨10, _⟩ => ⟨S20480, .i32⟩
  | .hbm, ⟨11, _⟩ => ⟨S1x20480, .i32⟩
  | .hbm, ⟨12, _⟩ => ⟨S4x20480, .i32⟩
  | .hbm, ⟨13, _⟩ => ⟨S81920, .i32⟩
  | .hbm, ⟨14, _⟩ => ⟨S81920, .i32⟩
  | .hbm, ⟨15, _⟩ => ⟨S1x81920, .i32⟩
  | .hbm, ⟨16, _⟩ => ⟨S1x81920, .i32⟩
  | .hbm, ⟨17, _⟩ => ⟨S1x81920, .i32⟩
  | .hbm, ⟨18, _⟩ => ⟨S3x81920, .i32⟩
  | .local _ .vmem, ⟨0, _⟩ => ⟨S1x256x64, .f32⟩
  | .local _ .vmem, ⟨1, _⟩ => ⟨S1x256x64, .f32⟩
  | .local _ .vmem, ⟨2, _⟩ => ⟨S1x8192x64, .f32⟩
  | .local _ .vmem, ⟨3, _⟩ => ⟨S1x8192x64, .f32⟩
  | .local _ .vmem, ⟨4, _⟩ => ⟨S1x256x10, .f32⟩
  | .local _ .vmem, ⟨5, _⟩ => ⟨S1x256x10, .f32⟩
  | .local _ .vmem, ⟨6, _⟩ => ⟨S1x256x10, .i32⟩
  | .local _ .vmem, ⟨7, _⟩ => ⟨S1x256x10, .i32⟩
  | .local _ .vmem, ⟨8, _⟩ => ⟨S8192x64, .f32⟩
  | .local _ .vmem, ⟨9, _⟩ => ⟨S256x8192, .f32⟩
  | _, _ => ⟨S4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_12 : BitVec 32 := 0#32
  let c8_i32 : BitVec 32 := 8#32
  let v23 : BitVec 32 := Scalar.addi c0_i32_12 c8_i32
  let c1_i32 : BitVec 32 := 1#32
  ⟨c0_i32_12, v23, c1_i32⟩
def k0_off1 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v25 : Index := Scalar.indexCast v24
  let c0_14 : Index := 0#32
  ![v25.toNat, 0]
def k0_off2 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v27 : Index := Scalar.indexCast v24
  let c128 : Index := 128#32
  ![v27.toNat, 128]
def k0_off3 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v45 : Index := Scalar.indexCast v24
  let c256 : Index := 256#32
  ![v45.toNat, 256]
def k0_off4 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v63 : Index := Scalar.indexCast v24
  let c384 : Index := 384#32
  ![v63.toNat, 384]
def k0_off5 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v81 : Index := Scalar.indexCast v24
  let c512 : Index := 512#32
  ![v81.toNat, 512]
def k0_off6 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v99 : Index := Scalar.indexCast v24
  let c640 : Index := 640#32
  ![v99.toNat, 640]
def k0_off7 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v117 : Index := Scalar.indexCast v24
  let c768 : Index := 768#32
  ![v117.toNat, 768]
def k0_off8 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v135 : Index := Scalar.indexCast v24
  let c896 : Index := 896#32
  ![v135.toNat, 896]
def k0_off9 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v153 : Index := Scalar.indexCast v24
  let c1024 : Index := 1024#32
  ![v153.toNat, 1024]
def k0_off10 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v171 : Index := Scalar.indexCast v24
  let c1152 : Index := 1152#32
  ![v171.toNat, 1152]
def k0_off11 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v189 : Index := Scalar.indexCast v24
  let c1280 : Index := 1280#32
  ![v189.toNat, 1280]
def k0_off12 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v207 : Index := Scalar.indexCast v24
  let c1408 : Index := 1408#32
  ![v207.toNat, 1408]
def k0_off13 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v225 : Index := Scalar.indexCast v24
  let c1536 : Index := 1536#32
  ![v225.toNat, 1536]
def k0_off14 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v243 : Index := Scalar.indexCast v24
  let c1664 : Index := 1664#32
  ![v243.toNat, 1664]
def k0_off15 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v261 : Index := Scalar.indexCast v24
  let c1792 : Index := 1792#32
  ![v261.toNat, 1792]
def k0_off16 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v279 : Index := Scalar.indexCast v24
  let c1920 : Index := 1920#32
  ![v279.toNat, 1920]
def k0_off17 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v297 : Index := Scalar.indexCast v24
  let c2048 : Index := 2048#32
  ![v297.toNat, 2048]
def k0_off18 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v315 : Index := Scalar.indexCast v24
  let c2176 : Index := 2176#32
  ![v315.toNat, 2176]
def k0_off19 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v333 : Index := Scalar.indexCast v24
  let c2304 : Index := 2304#32
  ![v333.toNat, 2304]
def k0_off20 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v351 : Index := Scalar.indexCast v24
  let c2432 : Index := 2432#32
  ![v351.toNat, 2432]
def k0_off21 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v369 : Index := Scalar.indexCast v24
  let c2560 : Index := 2560#32
  ![v369.toNat, 2560]
def k0_off22 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v387 : Index := Scalar.indexCast v24
  let c2688 : Index := 2688#32
  ![v387.toNat, 2688]
def k0_off23 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v405 : Index := Scalar.indexCast v24
  let c2816 : Index := 2816#32
  ![v405.toNat, 2816]
def k0_off24 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v423 : Index := Scalar.indexCast v24
  let c2944 : Index := 2944#32
  ![v423.toNat, 2944]
def k0_off25 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v441 : Index := Scalar.indexCast v24
  let c3072 : Index := 3072#32
  ![v441.toNat, 3072]
def k0_off26 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v459 : Index := Scalar.indexCast v24
  let c3200 : Index := 3200#32
  ![v459.toNat, 3200]
def k0_off27 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v477 : Index := Scalar.indexCast v24
  let c3328 : Index := 3328#32
  ![v477.toNat, 3328]
def k0_off28 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v495 : Index := Scalar.indexCast v24
  let c3456 : Index := 3456#32
  ![v495.toNat, 3456]
def k0_off29 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v513 : Index := Scalar.indexCast v24
  let c3584 : Index := 3584#32
  ![v513.toNat, 3584]
def k0_off30 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v531 : Index := Scalar.indexCast v24
  let c3712 : Index := 3712#32
  ![v531.toNat, 3712]
def k0_off31 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v549 : Index := Scalar.indexCast v24
  let c3840 : Index := 3840#32
  ![v549.toNat, 3840]
def k0_off32 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v567 : Index := Scalar.indexCast v24
  let c3968 : Index := 3968#32
  ![v567.toNat, 3968]
def k0_off33 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v585 : Index := Scalar.indexCast v24
  let c4096 : Index := 4096#32
  ![v585.toNat, 4096]
def k0_off34 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v603 : Index := Scalar.indexCast v24
  let c4224 : Index := 4224#32
  ![v603.toNat, 4224]
def k0_off35 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v621 : Index := Scalar.indexCast v24
  let c4352 : Index := 4352#32
  ![v621.toNat, 4352]
def k0_off36 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v639 : Index := Scalar.indexCast v24
  let c4480 : Index := 4480#32
  ![v639.toNat, 4480]
def k0_off37 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v657 : Index := Scalar.indexCast v24
  let c4608 : Index := 4608#32
  ![v657.toNat, 4608]
def k0_off38 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v675 : Index := Scalar.indexCast v24
  let c4736 : Index := 4736#32
  ![v675.toNat, 4736]
def k0_off39 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v693 : Index := Scalar.indexCast v24
  let c4864 : Index := 4864#32
  ![v693.toNat, 4864]
def k0_off40 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v711 : Index := Scalar.indexCast v24
  let c4992 : Index := 4992#32
  ![v711.toNat, 4992]
def k0_off41 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v729 : Index := Scalar.indexCast v24
  let c5120 : Index := 5120#32
  ![v729.toNat, 5120]
def k0_off42 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v747 : Index := Scalar.indexCast v24
  let c5248 : Index := 5248#32
  ![v747.toNat, 5248]
def k0_off43 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v765 : Index := Scalar.indexCast v24
  let c5376 : Index := 5376#32
  ![v765.toNat, 5376]
def k0_off44 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v783 : Index := Scalar.indexCast v24
  let c5504 : Index := 5504#32
  ![v783.toNat, 5504]
def k0_off45 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v801 : Index := Scalar.indexCast v24
  let c5632 : Index := 5632#32
  ![v801.toNat, 5632]
def k0_off46 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v819 : Index := Scalar.indexCast v24
  let c5760 : Index := 5760#32
  ![v819.toNat, 5760]
def k0_off47 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v837 : Index := Scalar.indexCast v24
  let c5888 : Index := 5888#32
  ![v837.toNat, 5888]
def k0_off48 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v855 : Index := Scalar.indexCast v24
  let c6016 : Index := 6016#32
  ![v855.toNat, 6016]
def k0_off49 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v873 : Index := Scalar.indexCast v24
  let c6144 : Index := 6144#32
  ![v873.toNat, 6144]
def k0_off50 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v891 : Index := Scalar.indexCast v24
  let c6272 : Index := 6272#32
  ![v891.toNat, 6272]
def k0_off51 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v909 : Index := Scalar.indexCast v24
  let c6400 : Index := 6400#32
  ![v909.toNat, 6400]
def k0_off52 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v927 : Index := Scalar.indexCast v24
  let c6528 : Index := 6528#32
  ![v927.toNat, 6528]
def k0_off53 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v945 : Index := Scalar.indexCast v24
  let c6656 : Index := 6656#32
  ![v945.toNat, 6656]
def k0_off54 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v963 : Index := Scalar.indexCast v24
  let c6784 : Index := 6784#32
  ![v963.toNat, 6784]
def k0_off55 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v981 : Index := Scalar.indexCast v24
  let c6912 : Index := 6912#32
  ![v981.toNat, 6912]
def k0_off56 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v999 : Index := Scalar.indexCast v24
  let c7040 : Index := 7040#32
  ![v999.toNat, 7040]
def k0_off57 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v1017 : Index := Scalar.indexCast v24
  let c7168 : Index := 7168#32
  ![v1017.toNat, 7168]
def k0_off58 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v1035 : Index := Scalar.indexCast v24
  let c7296 : Index := 7296#32
  ![v1035.toNat, 7296]
def k0_off59 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v1053 : Index := Scalar.indexCast v24
  let c7424 : Index := 7424#32
  ![v1053.toNat, 7424]
def k0_off60 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v1071 : Index := Scalar.indexCast v24
  let c7552 : Index := 7552#32
  ![v1071.toNat, 7552]
def k0_off61 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v1089 : Index := Scalar.indexCast v24
  let c7680 : Index := 7680#32
  ![v1089.toNat, 7680]
def k0_off62 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v1107 : Index := Scalar.indexCast v24
  let c7808 : Index := 7808#32
  ![v1107.toNat, 7808]
def k0_off63 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v1125 : Index := Scalar.indexCast v24
  let c7936 : Index := 7936#32
  ![v1125.toNat, 7936]
def k0_off64 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v1143 : Index := Scalar.indexCast v24
  let c8064 : Index := 8064#32
  ![v1143.toNat, 8064]
def k0_off65 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v1395 : Index := Scalar.indexCast v24
  let c0_197 : Index := 0#32
  ![v1395.toNat, 0]
@[reducible] def k0_t2_loop : Scf.Loop 32 :=
  let c0_i32_200 : BitVec 32 := 0#32
  let c10_i32_201 : BitVec 32 := 10#32
  let v1400 : BitVec 32 := Scalar.addi c0_i32_200 c10_i32_201
  let c1_i32_202 : BitVec 32 := 1#32
  ⟨c0_i32_200, v1400, c1_i32_202⟩
def k0_off66 (k0_t1 : Fin k0_t1_loop.trips) : Fin 3 → Nat :=
  let c0_193 : Index := 0#32
  let c0_i32_12 : BitVec 32 := 0#32
  let c1_i32 : BitVec 32 := 1#32
  let arg8 : BitVec 32 := Scf.iv c0_i32_12 c1_i32 k0_t1
  let c32_i32 : BitVec 32 := 32#32
  let v24 : BitVec 32 := Scalar.muli arg8 c32_i32
  let v1387 : Index := Scalar.indexCast v24
  let c0_194 : Index := 0#32
  ![0, v1387.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x10 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x2048x64 : Shape := ⟨3, ![4, 2048, 64]⟩
abbrev S4x8192x64 : Shape := ⟨3, ![4, 8192, 64]⟩
abbrev S_ : Shape := ⟨0, ![]⟩
abbrev S4x2048 : Shape := ⟨2, ![4, 2048]⟩
abbrev S4x2048x1 : Shape := ⟨3, ![4, 2048, 1]⟩
abbrev S4x8192 : Shape := ⟨2, ![4, 8192]⟩
abbrev S4x8192x1 : Shape := ⟨3, ![4, 8192, 1]⟩
abbrev S4x2048x8192 : Shape := ⟨3, ![4, 2048, 8192]⟩
abbrev S4x2048x10 : Shape := ⟨3, ![4, 2048, 10]⟩
abbrev S4 : Shape := ⟨1, ![4]⟩
abbrev S4x20480 : Shape := ⟨2, ![4, 20480]⟩
abbrev S81920 : Shape := ⟨1, ![81920]⟩
abbrev S2048 : Shape := ⟨1, ![2048]⟩
abbrev S2048x10 : Shape := ⟨2, ![2048, 10]⟩
abbrev S20480 : Shape := ⟨1, ![20480]⟩
abbrev S1x20480 : Shape := ⟨2, ![1, 20480]⟩
abbrev S1x81920 : Shape := ⟨2, ![1, 81920]⟩
abbrev S3x81920 : Shape := ⟨2, ![3, 81920]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x64, .f32⟩
  | .hbm, ⟨1, _⟩ => ⟨S4x8192x64, .f32⟩
  | .hbm, ⟨2, _⟩ => ⟨S4x2048x64, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x64, .f32⟩
  | .hbm, ⟨11, _⟩ => ⟨S4x2048x64, .f32⟩
  | .hbm, ⟨12, _⟩ => ⟨S4x8192x64, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x64, .f32⟩
  | .hbm, ⟨21, _⟩ => ⟨S4x8192x64, .f32⟩
  | .hbm, ⟨22, _⟩ => ⟨S4x2048x8192, .f32⟩
  | .hbm, ⟨23, _⟩ => ⟨S_, .f32⟩
  | .hbm, ⟨24, _⟩ => ⟨S4x2048x8192, .f32⟩
  | .hbm, ⟨25, _⟩ => ⟨S4x2048x8192, .f32⟩
  | .hbm, ⟨26, _⟩ => ⟨S4x2048x10, .f32⟩
  | .hbm, ⟨27, _⟩ => ⟨S4x2048x10, .i32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x10, .f32⟩
  | .hbm, ⟨35, _⟩ => ⟨S4x2048x10, .f32⟩
  | .hbm, ⟨36, _⟩ => ⟨S4x2048x10, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x10, .f32⟩
  | .hbm, ⟨41, _⟩ => ⟨S4x2048x10, .f32⟩
  | .hbm, ⟨42, _⟩ => ⟨S4, .i32⟩
  | .hbm, ⟨43, _⟩ => ⟨S4x20480, .i32⟩
  | .hbm, ⟨44, _⟩ => ⟨S81920, .i32⟩
  | .hbm, ⟨45, _⟩ => ⟨S2048, .i32⟩
  | .hbm, ⟨46, _⟩ => ⟨S2048x10, .i32⟩
  | .hbm, ⟨47, _⟩ => ⟨S20480, .i32⟩
  | .hbm, ⟨48, _⟩ => ⟨S1x20480, .i32⟩
  | .hbm, ⟨49, _⟩ => ⟨S4x20480, .i32⟩
  | .hbm, ⟨50, _⟩ => ⟨S81920, .i32⟩
  | .hbm, ⟨51, _⟩ => ⟨S81920, .i32⟩
  | .hbm, ⟨52, _⟩ => ⟨S1x81920, .i32⟩
  | .hbm, ⟨53, _⟩ => ⟨S1x81920, .i32⟩
  | .hbm, ⟨54, _⟩ => ⟨S1x81920, .i32⟩
  | .hbm, ⟨55, _⟩ => ⟨S3x81920, .i32⟩
  | .hbm, ⟨56, _⟩ => ⟨S81920, .f32⟩
  | _, _ => ⟨S4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_values : Ref sig .tc := ⟨.hbm, 26, rfl⟩
abbrev main_indices : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Proof.Trip.lean ====
module

public import proofs.«01_k».proof.Proof.Gen.KernelIdeal
public import proofs.«01_k».proof.Proof.Gen.KernelIdeal.Skeleton
public import Idealize.ShloMosaic.Lib.Tactic

@[expose] public section

set_option maxRecDepth 16384

noncomputable section

namespace Cert.Proof.Knn

open Cert.KernelIdeal Cert.KernelIdeal.Facts₀ Cert.KernelIdeal.Facts
open Idealize.ShloMosaic Idealize.ShloMosaic.TcCoe
open Idealize.SL Idealize.SL.Sem

variable {F : FTy → Type} [FloatOps F]

/-- Three values per lane with the chunk each came from, best first. -/
structure Lists (F : FTy → Type) where
  t1 : FVec F S32x128 .f32
  t2 : FVec F S32x128 .f32
  t3 : FVec F S32x128 .f32
  i1 : IVec S32x128 32
  i2 : IVec S32x128 32
  i3 : IVec S32x128 32

/-- Nothing but the first chunk seen. -/
def firstLists (v : FVec F S32x128 .f32) : Lists F :=
  ⟨v, broadcast S32x128 (Scalar.ofBits .f32 0xFF800000#32), broadcast S32x128 (Scalar.ofBits .f32 0xFF800000#32),
    broadcast S32x128 0#32, broadcast S32x128 0#32, broadcast S32x128 0#32⟩

/-- Chunk `c`'s value put into each lane's list. -/
def insertChunk (c : ℕ) (v : FVec F S32x128 .f32) (s : Lists F) : Lists F :=
  ⟨select (cmpf .ogt v s.t1) v s.t1,
   select (cmpf .ogt v s.t2) (select (cmpf .ogt v s.t1) s.t1 v) s.t2,
   select (cmpf .ogt v s.t3) (select (cmpf .ogt v s.t2) s.t2 v) s.t3,
   select (cmpf .ogt v s.t1) (broadcast S32x128 (BitVec.ofNat 32 c)) s.i1,
   select (cmpf .ogt v s.t2) (select (cmpf .ogt v s.t1) s.i1 (broadcast S32x128 (BitVec.ofNat 32 c))) s.i2,
   select (cmpf .ogt v s.t3) (select (cmpf .ogt v s.t2) s.i2 (broadcast S32x128 (BitVec.ofNat 32 c))) s.i3⟩

/-- The lists and how often each lane's head has been taken. -/
structure Heads (F : FTy → Type) where
  l : Lists F
  pops : IVec S32x128 32

/-- The greatest head of each row. -/
def headMax (h : Heads F) : FVec F S32x1 .f32 :=
  shapeCast S32x1 (multiReduction .maximumf [1] S32 h.l.t1 0xFF800000#32 reduces_S32x128_S32 (.inl rfl) rfl) shapeCasts_S32_S32x1

/-- Which heads are the greatest of their row. -/
def headHit (h : Heads F) : IVec S32x128 1 := cmpf .oeq h.l.t1 (broadcastTo S32x128 (headMax h) broadcasts_S32x1_S32x128)

/-- Each head's column. -/
def headCol (h : Heads F) : IVec S32x128 32 :=
  addi (muli h.l.i1 (broadcast S32x128 128#32)) (iota .tc S32x128 32 [1] iota_S32x128_d1_w32)

/-- The least column among the greatest heads of each row. -/
def headIdx (h : Heads F) : IVec S32x1 32 :=
  shapeCast S32x1 (multiReductionI .minsi [1] S32 (select (headHit h) (headCol h) (broadcast S32x128 8192#32)) 2147483647#32 reduces_S32x128_S32 rfl) shapeCasts_S32_S32x1

/-- The lane that is taken. -/
def headHot (h : Heads F) : IVec S32x128 1 :=
  andi (headHit h) (cmpi .eq (headCol h) (broadcastTo S32x128 (headIdx h) broadcasts_S32x1_S32x128))

/-- One head taken. -/
def pop (h : Heads F) : Heads F :=
  ⟨⟨select (headHot h) h.l.t2 h.l.t1, select (headHot h) h.l.t3 h.l.t2,
    select (headHot h) (broadcast S32x128 (Scalar.ofBits .f32 0xFF800000#32)) h.l.t3,
    select (headHot h) h.l.i2 h.l.i1, select (headHot h) h.l.i3 h.l.i2, h.l.i3⟩,
   addi h.pops (extui 32 (headHot h) natLt_1_32)⟩

/-- `n` heads taken. -/
def popN (h : Heads F) : ℕ → Heads F
  | 0 => h
  | n + 1 => pop (popN h n)

/-- The values taken. -/
def fastVals (h : Heads F) : FVec F S32x10 .f32 :=
  concatenate S32x10 1 [⟨S32x1, headMax (popN h 0)⟩, ⟨S32x1, headMax (popN h 1)⟩, ⟨S32x1, headMax (popN h 2)⟩,
    ⟨S32x1, headMax (popN h 3)⟩, ⟨S32x1, headMax (popN h 4)⟩, ⟨S32x1, headMax (popN h 5)⟩, ⟨S32x1, headMax (popN h 6)⟩,
    ⟨S32x1, headMax (popN h 7)⟩, ⟨S32x1, headMax (popN h 8)⟩, ⟨S32x1, headMax (popN h 9)⟩]
    concatenates_S32x1_S32x1_S32x1_S32x1_S32x1_S32x1_S32x1_S32x1_S32x1_S32x1_S32x10_d1

/-- Their columns. -/
def fastIdxs (h : Heads F) : IVec S32x10 32 :=
  concatenate S32x10 1 [⟨S32x1, headIdx (popN h 0)⟩, ⟨S32x1, headIdx (popN h 1)⟩, ⟨S32x1, headIdx (popN h 2)⟩,
    ⟨S32x1, headIdx (popN h 3)⟩, ⟨S32x1, headIdx (popN h 4)⟩, ⟨S32x1, headIdx (popN h 5)⟩, ⟨S32x1, headIdx (popN h 6)⟩,
    ⟨S32x1, headIdx (popN h 7)⟩, ⟨S32x1, headIdx (popN h 8)⟩, ⟨S32x1, headIdx (popN h 9)⟩]
    concatenates_S32x1_S32x1_S32x1_S32x1_S32x1_S32x1_S32x1_S32x1_S32x1_S32x1_S32x10_d1

/-- Whether some lane was taken three times or more. -/
def exhausted (h : Heads F) : BitVec 1 :=
  Scalar.cmpi .ne (Scalar.extui (Scalar.cmpi .sge (extractAt ![0, 0, 0]
    (shapeCast S1x1x1 (multiReductionI .maxsi [1, 2] S1 (shapeCast S1x32x128 (popN h 10).pops shapeCasts_S32x128_S1x32x128) 2147483648#32 reduces_S1x32x128_S1 rfl) shapeCasts_S1_S1x1x1)
    inpos_S1x1x1_p0_0_0) 3#32)) 0#32

/-- The slow way's state: the row block with the taken entries masked, the values and columns so far. -/
abbrev Slow (F : FTy → Type) [FloatOps F] := Vec F S32x8192 .f32 × FVec F S32x10 .f32 × IVec S32x10 32

/-- The greatest entry left of each row. -/
def slowMax (s : Vec F S32x8192 .f32) : FVec F S32x1 .f32 :=
  shapeCast S32x1 (multiReduction .maximumf [1] S32 s 0xFF800000#32 reduces_S32x8192_S32 (.inl rfl) rfl) shapeCasts_S32_S32x1

/-- Its least column. -/
def slowIdx (s : Vec F S32x8192 .f32) : IVec S32x1 32 :=
  shapeCast S32x1 (multiReductionI .minsi [1] S32 (select (cmpf .oeq s (broadcastTo S32x8192 (slowMax s) broadcasts_S32x1_S32x8192))
    (iota .tc S32x8192 32 [1] iota_S32x8192_d1_w32) (broadcast S32x8192 8192#32)) 2147483647#32 reduces_S32x8192_S32 rfl) shapeCasts_S32_S32x1

/-- One step of the slow way, writing column `j` of the results. -/
def slowStep (j : BitVec 32) (a : Slow F) : Slow F :=
  (select (cmpi .eq (iota .tc S32x8192 32 [1] iota_S32x8192_d1_w32) (broadcastTo S32x8192 (slowIdx a.1) broadcasts_S32x1_S32x8192))
      (broadcast S32x8192 (Scalar.ofBits .f32 0xFF800000#32)) a.1,
   select (cmpi .eq (iota .tc S32x10 32 [1] iota_S32x10_d1_w32) (broadcast S32x10 j))
      (broadcastTo S32x10 (shapeCast S32x1 (slowMax a.1) shapeCasts_S32x1_S32x1) broadcasts_S32x1_S32x10) a.2.1,
   select (cmpi .eq (iota .tc S32x10 32 [1] iota_S32x10_d1_w32) (broadcast S32x10 j))
      (broadcastTo S32x10 (shapeCast S32x1 (slowIdx a.1) shapeCasts_S32x1_S32x1) broadcasts_S32x1_S32x10) a.2.2)

/-- The slow way's start. -/
def slowInit (s : Vec F S32x8192 .f32) : Slow F :=
  (s, broadcast S32x10 (Scalar.ofBits .f32 0x00000000#32), broadcast S32x10 0#32)

/-- The softmax of each row's values, the first subtracted. -/
def weights (tv : FVec F S32x10 .f32) : FVec F S32x10 .f32 :=
  let e := exp (subf tv (broadcastTo S32x10 (extractStridedSlice S32x1 ![0, 0] tv slices_S32x10_o0_0_S32x1) broadcasts_S32x1_S32x10))
  divf e (broadcastTo S32x10 (shapeCast S32x1 (multiReduction .add [1] S32 e 0x00000000#32 reduces_S32x10_S32 (.inl rfl) rfl) shapeCasts_S32_S32x1) broadcasts_S32x1_S32x10)

/-- The first row of trip `t`'s block. -/
def rowWord (t : Fin k0_t1_loop.trips) : ℕ := (Scalar.indexCast (Scalar.muli (Scf.iv 0#32 1#32 t) 32#32) : Index).toNat

/-- Where chunk `c` of trip `t` starts. -/
def chunkOff (t : Fin k0_t1_loop.trips) (c : ℕ) : Fin 2 → ℕ := ![rowWord t, 128 * c]

theorem chunkOff_inb (t : Fin k0_t1_loop.trips) (c : ℕ) (hc : c < 64) : ∀ a, chunkOff t c a + S32x128.size a ≤ S256x8192.size a := by
  have h := k0_off1_inb t
  intro a
  match a with
  | 0 => exact h 0
  | 1 =>
    show 128 * c + 128 ≤ 8192
    omega

/-- The chunks from `c` on, read one after the other and put into the lists. -/
def readChunks (arg7 : Memref sig .tc .vmem S256x8192 .f32) (t : Fin k0_t1_loop.trips) {α : Type}
    (k : Lists F → Prog (TpuEff nD τ sig (Elt F) Λ₀ .tc) α) : (n c : ℕ) → (hc : c + n ≤ 64) → Lists F → Prog (TpuEff nD τ sig (Elt F) Λ₀ .tc) α
  | 0, _, _, s => k s
  | n + 1, c, hc, s =>
    .op (.load arg7 (Rect.unit (s := S256x8192) (chunkOff t c) S32x128.size (chunkOff_inb t c (by omega))).toLoadRect (View.loadsAt_vmem h_S32x128))
      fun v => readChunks arg7 t k n (c + 1) (by omega) (insertChunk c v s)

/-- The values stored, the columns handed on. -/
def putVals (arg4 : Memref sig .tc .vmem S1x256x10 .f32) (arg5 : Memref sig .tc .vmem S1x256x10 .i32)
    (t : Fin k0_t1_loop.trips) (r : FVec F S32x10 .f32 × IVec S32x10 32) : Prog (TpuEff nD τ sig (Elt F) Λ₀ .tc) (Σ' (_ : IVec S32x10 32), Vec F S1x32x10 .i32) :=
  .op (.load arg4 (Rect.unit (s := S1x256x10) (k0_off66 t) S1x32x10.size (k0_off66_inb t)).toLoadRect (View.loadsAt_vmem h_S1x32x10)) fun (_ : Vec F S1x32x10 .f32) =>
  .op (.store arg4 (Rect.unit (s := S1x256x10) (k0_off66 t) S1x32x10.size (k0_off66_inb t)) (shapeCast S1x32x10 (weights (F := F) r.1) shapeCasts_S32x10_S1x32x10) Finset.univ (View.stores_vmem_bits_univ h_S1x32x10 rfl) (.inl rfl)) fun _ =>
  .op (.load arg5 (Rect.unit (s := S1x256x10) (k0_off66 t) S1x32x10.size (k0_off66_inb t)).toLoadRect (View.loadsAt_vmem h_S1x32x10)) fun (old : Vec F S1x32x10 .i32) =>
  .ret ⟨r.2, old⟩

/-- The trip's results: the fast way's heads in hand, the slow way if some lane ran out. -/
def results (arg4 : Memref sig .tc .vmem S1x256x10 .f32) (arg5 : Memref sig .tc .vmem S1x256x10 .i32) (arg7 : Memref sig .tc .vmem S256x8192 .f32)
    (t : Fin k0_t1_loop.trips) (h : Heads F) : Prog (TpuEff nD τ sig (Elt F) Λ₀ .tc) (Σ' (_ : IVec S32x10 32), Vec F S1x32x10 .i32) :=
  if exhausted h = 1#1 then
    .op (.load arg7 (Rect.unit (s := S256x8192) (k0_off65 t) S32x8192.size (k0_off65_inb t)).toLoadRect (View.loadsAt_vmem h_S32x8192)) fun (w : Vec F S32x8192 .f32) =>
      (Scf.Loop.for k0_t2_loop k0_t2_ok (slowInit (F := F) w) fun j a => .ret (slowStep (Scf.iv 0#32 1#32 j) a)) >>= fun a => putVals arg4 arg5 t (a.2.1, a.2.2)
  else putVals arg4 arg5 t (fastVals h, fastIdxs h)

/-- The trip's last part: the results, and the columns stored. -/
def finish (arg4 : Memref sig .tc .vmem S1x256x10 .f32) (arg5 : Memref sig .tc .vmem S1x256x10 .i32) (arg7 : Memref sig .tc .vmem S256x8192 .f32)
    (t : Fin k0_t1_loop.trips) (h : Heads F) : Prog (TpuEff nD τ sig (Elt F) Λ₀ .tc) Unit :=
  results arg4 arg5 arg7 t h >>= fun p =>
  .op (.store arg5 (Rect.unit (s := S1x256x10) (k0_off66 t) S1x32x10.size (k0_off66_inb t)) (shapeCast S1x32x10 p.1 shapeCasts_S32x10_S1x32x10) Finset.univ (View.stores_vmem_bits_univ h_S1x32x10 rfl) (.inl rfl)) fun _ =>
  .ret ()

/-- One trip, written out. -/
def trip (arg4 : Memref sig .tc .vmem S1x256x10 .f32) (arg5 : Memref sig .tc .vmem S1x256x10 .i32) (arg7 : Memref sig .tc .vmem S256x8192 .f32)
    (t : Fin k0_t1_loop.trips) : Prog (TpuEff nD τ sig (Elt F) Λ₀ .tc) Unit :=
  .op (.load arg7 (Rect.unit (s := S256x8192) (chunkOff t 0) S32x128.size (chunkOff_inb t 0 (by omega))).toLoadRect (View.loadsAt_vmem h_S32x128))
    fun (v : Vec F S32x128 .f32) => readChunks (F := F) arg7 t (fun s => finish (F := F) arg4 arg5 arg7 t ⟨s, broadcast S32x128 0#32⟩) 63 1 (by omega) (firstLists (F := F) v)

set_option maxRecDepth 65536 in
/-- The trip as printed is the trip written out. -/
theorem body_eq_trip (i : grid0.Coords) (arg2 : Memref sig .tc .vmem S1x256x64 .f32) (harg2 : arg2.IsWhole) (arg3 : Memref sig .tc .vmem S1x8192x64 .f32) (harg3 : arg3.IsWhole) (arg4 : Memref sig .tc .vmem S1x256x10 .f32) (harg4 : arg4.IsWhole) (arg5 : Memref sig .tc .vmem S1x256x10 .i32) (harg5 : arg5.IsWhole) (arg6 : Memref sig .tc .vmem S8192x64 .f32) (harg6 : arg6.IsWhole) (arg7 : Memref sig .tc .vmem S256x8192 .f32) (harg7 : arg7.IsWhole)
    (t : Fin k0_t1_loop.trips) :
    Gen.k0_t1_body (F := F) i arg2 harg2 arg3 harg3 arg4 harg4 arg5 harg5 arg6 harg6 arg7 harg7 (iota .tc S32x128 32 [1] iota_S32x128_d1_w32) t ()
      = trip arg4 arg5 arg7 t := by
  sl_kernel_rfl

attribute [irreducible] exhausted slowInit slowStep fastVals fastIdxs weights

end Cert.Proof.Knn

end
-- ==== Proof.Values.lean ====
module

public import proofs.«01_k».proof.Proof.Trip
public import Idealize.ShloMosaic.Lib.Pipeline.ValueKit.Tiles

/-!
What the kernel computes, as plain functions of what it reads: the ten places a trip finds in its 32 rows of the
scaled products, and the two result blocks of a grid point.
-/

@[expose] public section

set_option maxRecDepth 16384

noncomputable section

namespace Cert.Proof.Knn

open Cert.KernelIdeal Cert.KernelIdeal.Facts₀ Cert.KernelIdeal.Facts
open Idealize.ShloMosaic Idealize.ShloMosaic.TcCoe
open Idealize.SL Idealize.SL.Sem

variable {F : FTy → Type} [FloatOps F]

theorem trips_outer : k0_t1_loop.trips = 8 := by decide +kernel
theorem trips_inner : k0_t2_loop.trips = 10 := by decide +kernel
theorem storeOff_eq : ∀ t, k0_off66 t = ![0, 32 * t.val, 0] := by decide +kernel
theorem rowsOff_eq : ∀ t, k0_off65 t = ![32 * t.val, 0] := by decide +kernel
theorem rowWord_eq : ∀ t, rowWord t = 32 * t.val := by decide +kernel

/-- Chunk `c` of trip `t`'s rows of `s`. -/
def chunk (s : Vec F S256x8192 .f32) (t : Fin k0_t1_loop.trips) (c : ℕ) (hc : c < 64) : FVec F S32x128 .f32 :=
  fun x => s ((Rect.unit (s := S256x8192) (chunkOff t c) S32x128.size (chunkOff_inb t c hc)).toLoadRect.idx x)

/-- The lists after the `n` chunks from `c` on. -/
def listsFrom (s : Vec F S256x8192 .f32) (t : Fin k0_t1_loop.trips) : (n c : ℕ) → (hc : c + n ≤ 64) → Lists F → Lists F
  | 0, _, _, l => l
  | n + 1, c, hc, l => listsFrom s t n (c + 1) (by omega) (insertChunk c (chunk s t c (by omega)) l)

/-- The lists of trip `t`, nothing taken. -/
def heads (s : Vec F S256x8192 .f32) (t : Fin k0_t1_loop.trips) : Heads F :=
  ⟨listsFrom s t 63 1 (by omega) (firstLists (chunk s t 0 (by omega))), broadcast S32x128 0#32⟩

/-- Trip `t`'s rows of `s`. -/
def rows (s : Vec F S256x8192 .f32) (t : Fin k0_t1_loop.trips) : Vec F S32x8192 .f32 :=
  fun x => s ((Rect.unit (s := S256x8192) (k0_off65 t) S32x8192.size (k0_off65_inb t)).toLoadRect.idx x)

/-- The slow way after `n` steps. -/
def slowRun (w : Vec F S32x8192 .f32) : ℕ → Slow F
  | 0 => slowInit w
  | n + 1 => slowStep (Scf.iv 0#32 1#32 n) (slowRun w n)

theorem slowRun_zero (w : Vec F S32x8192 .f32) : slowRun w 0 = slowInit w := by with_unfolding_all rfl
theorem slowRun_succ (w : Vec F S32x8192 .f32) (n : ℕ) : slowRun w (n + 1) = slowStep (Scf.iv 0#32 1#32 n) (slowRun w n) := by
  with_unfolding_all rfl

/-- The ten values and columns found for each of trip `t`'s rows. -/
def found (s : Vec F S256x8192 .f32) (t : Fin k0_t1_loop.trips) : FVec F S32x10 .f32 × IVec S32x10 32 :=
  if exhausted (heads s t) = 1#1 then ((slowRun (rows s t) 10).2.1, (slowRun (rows s t) 10).2.2) else (fastVals (heads s t), fastIdxs (heads s t))

-- what they hold is opened by their equations only
attribute [irreducible] chunk listsFrom heads rows slowRun found

/-- The trip that writes row `i 1` of a result block. -/
def tripOf (i : S1x256x10.Idx) : Fin k0_t1_loop.trips :=
  ⟨(i 1).val / 32, by have h : (i 1).val < 256 := (i 1).isLt; rw [trips_outer]; omega⟩

/-- That row within the trip's piece. -/
def inTrip (i : S1x256x10.Idx) : S1x32x10.Idx := fun
  | 0 => i 0
  | 1 => ⟨(i 1).val % 32, Nat.mod_lt _ (by decide)⟩
  | 2 => i 2
  | ⟨_ + 3, h⟩ => absurd h (Nat.not_lt.2 (Nat.le_add_left _ _))

/-- The block of values. -/
def outVals (s : Vec F S256x8192 .f32) : Vec F S1x256x10 .f32 := fun i =>
  shapeCast S1x32x10 (weights (found s (tripOf i)).1) shapeCasts_S32x10_S1x32x10 (inTrip i)

/-- The block of columns. -/
def outIdxs (s : Vec F S256x8192 .f32) : Vec F S1x256x10 .i32 := fun i =>
  shapeCast S1x32x10 (found s (tripOf i)).2 shapeCasts_S32x10_S1x32x10 (inTrip i)

/-- The rectangle trip `t` writes. -/
abbrev piece (t : Fin k0_t1_loop.trips) : Rect S1x256x10 := Rect.unit (s := S1x256x10) (k0_off66 t) S1x32x10.size (k0_off66_inb t)

/-- A row trip `t` writes, placed: `t` is the trip that writes it, and the row within the piece is the row. -/
theorem tripOf_piece (t : Fin k0_t1_loop.trips) (x : (piece t).shape.Idx) : tripOf ((piece t).emb x) = t ∧ inTrip ((piece t).emb x) = x := by
  have hx1 : (x 1).val < 32 := (x 1).isLt
  have e : ∀ a, (((piece t).emb x) a : ℕ) = ![0, 32 * t.val, 0] a + x a := fun a => by
    rw [← storeOff_eq t]; exact Rect.idx_unit_val _ _ _ x a
  have e0 : (((piece t).emb x) 0 : ℕ) = x 0 := (e 0).trans (Nat.zero_add _)
  have e1 : (((piece t).emb x) 1 : ℕ) = 32 * t.val + x 1 := e 1
  have e2 : (((piece t).emb x) 2 : ℕ) = x 2 := (e 2).trans (Nat.zero_add _)
  constructor
  · apply Fin.ext
    show (((piece t).emb x) 1 : ℕ) / 32 = t.val
    rw [e1]; omega
  · funext a
    apply Fin.ext
    match a with
    | 0 => exact e0
    | 1 =>
      show (((piece t).emb x) 1 : ℕ) % 32 = x 1
      rw [e1]; omega
    | 2 => exact e2

/-- A row below the first `32 * (t + 1)` that trip `t` does not write is below the first `32 * t`. -/
theorem not_mem_piece (t : Fin k0_t1_loop.trips) (i : S1x256x10.Idx) (h : i ∉ (piece t).set) (hi : (i 1).val < 32 * (t.val + 1)) :
    (i 1).val < 32 * t.val := by
  by_contra hn
  apply h
  rw [Rect.mem_set_unit, storeOff_eq]
  intro a
  match a with
  | 0 =>
    have := (i 0).isLt
    exact ⟨Nat.zero_le _, by show _ < 0 + _; simpa using this⟩
  | 1 =>
    show 32 * t.val ≤ (i 1).val ∧ (i 1).val < 32 * t.val + 32
    omega
  | 2 =>
    have := (i 2).isLt
    exact ⟨Nat.zero_le _, by show _ < 0 + _; simpa using this⟩

end Cert.Proof.Knn

end
-- ==== Proof.Steps.lean ====
module

public import proofs.«01_k».proof.Proof.Values
public import proofs.«01_k».proof.Proof.Gen.KernelIdeal.Frame
public import Idealize.ShloMosaic.Lib.WholeRead

/-!
The trip's run and the loop's: from the scaled products in the second scratch buffer to the two result blocks.
-/

@[expose] public section

set_option maxRecDepth 16384

noncomputable section

namespace Cert.Proof.Knn

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

variable (c : Dev nD) (E : Set ℕ)

/-- The chunks' loads, one after the other, leave the products as they were and hand on the lists. -/
theorem wp_readChunks (arg7 : Memref sig .tc .vmem S256x8192 .f32) (h7 : arg7.IsWhole) (s : Vec F S256x8192 .f32) (t : Fin k0_t1_loop.trips)
    (k : Lists F → Prog (TpuEff nD τ sig (Elt F) Λ₀ .tc) Unit) (Q : Unit → sProp 𝕄) :
    ∀ (n b : ℕ) (hb : b + n ≤ 64) (l : Lists F),
      (arg7.view.loc (c : Thread nD τ) ↦[arg7.view.set]{fullShare} h7.unread s : sProp 𝕄)
        ⊢ iprop(((arg7.view.loc (c : Thread nD τ) ↦[arg7.view.set]{fullShare} h7.unread s)
            -∗ wp frame (wpE (defs₀ (F := F)) 𝒱₀ c none) E (k (listsFrom s t n b hb l)) Q)
          -∗ wp frame (wpE (defs₀ (F := F)) 𝒱₀ c none) E (readChunks arg7 t k n b hb l) Q)
  | 0, _, _, _ => by
    unfold readChunks listsFrom
    iintro H Hk
    iapply Hk
    iexact H
  | n + 1, b, hb, l => by
    have hb' : b < 64 := by omega
    have hn : b + 1 + n ≤ 64 := by omega
    unfold readChunks listsFrom
    iintro H Hk
    iapply (wp_load 𝒱₀ (c : Thread nD τ) none E (m := arg7) (View.setOn_subset_set _ _)) $$ H
    iintro H
    rw [show View.readAt (Elt F) arg7.view (Rect.unit (s := S256x8192) (chunkOff t b) S32x128.size (chunkOff_inb t b hb')).toLoadRect (h7.unread s)
      = chunk s t b hb' from funext fun x => by rw [chunk]; exact Memref.IsWhole.readAt_unread h7 s _ x]
    iapply (wp_readChunks arg7 h7 s t k Q n (b + 1) hn (insertChunk b (chunk s t b hb') l)) $$ H
    iexact Hk

/-- The slow way's loop holds nothing and ends at ten steps. -/
theorem wp_slow (w : Vec F S32x8192 .f32) (Q : Slow F → sProp 𝕄) :
    Q (slowRun w 10) ⊢ wp frame (wpE (defs₀ (F := F)) 𝒱₀ c none) E
      (Scf.Loop.for k0_t2_loop k0_t2_ok (slowInit w) fun j a => .ret (slowStep (Scf.iv 0#32 1#32 j) a)) Q := by
  iintro HQ
  iapply (Scf.wp_for frame (wpE (defs₀ (F := F)) 𝒱₀ c none) E k0_t2_loop.lb k0_t2_loop.ub k0_t2_loop.st k0_t2_ok (slowInit w)
    (fun j a => .ret (slowStep (Scf.iv 0#32 1#32 j) a)) (fun k a => iprop(⌜a = slowRun w k⌝)) ?step)
  case step =>
    intro k a
    iintro %h
    rw [wp_ret]
    imodintro
    ipureintro
    rw [slowRun_succ, h]
  isplitr
  · ipureintro
    rw [slowRun_zero]
  iintro %a %h
  rw [show Scf.trips k0_t2_loop.lb k0_t2_loop.ub k0_t2_loop.st = 10 from trips_inner] at h
  subst h
  iexact HQ

/-- The trip's results: the values stored, the columns handed on, the products as they were. -/
theorem wp_results (arg4 : Memref sig .tc .vmem S1x256x10 .f32) (arg5 : Memref sig .tc .vmem S1x256x10 .i32)
    (arg7 : Memref sig .tc .vmem S256x8192 .f32) (h7 : arg7.IsWhole) (s : Vec F S256x8192 .f32) (t : Fin k0_t1_loop.trips)
    (f4 : Buf (Elt F) (arg4.view.loc (c : Thread nD τ))) (f5 : Buf (Elt F) (arg5.view.loc (c : Thread nD τ)))
    (Q : (Σ' (_ : IVec S32x10 32), Vec F S1x32x10 .i32) → sProp 𝕄) :
    iprop((arg4.view.loc (c : Thread nD τ) ↦[arg4.view.set]{fullShare} f4) ∗ (arg5.view.loc (c : Thread nD τ) ↦[arg5.view.set]{fullShare} f5)
        ∗ (arg7.view.loc (c : Thread nD τ) ↦[arg7.view.set]{fullShare} h7.unread s)
        ∗ (∀ old, ((arg4.view.loc (c : Thread nD τ) ↦[arg4.view.set]{fullShare} (arg4.access (piece t)).write (Elt F) f4
              (shapeCast S1x32x10 (weights (found s t).1) shapeCasts_S32x10_S1x32x10) Finset.univ)
            ∗ (arg5.view.loc (c : Thread nD τ) ↦[arg5.view.set]{fullShare} f5)
            ∗ (arg7.view.loc (c : Thread nD τ) ↦[arg7.view.set]{fullShare} h7.unread s)) -∗ Q ⟨(found s t).2, old⟩))
      ⊢ wp frame (wpE (defs₀ (F := F)) 𝒱₀ c none) E (results arg4 arg5 arg7 t (heads s t)) Q := by
  -- from the pair found on, whichever way it came
  have tail : ∀ r : FVec F S32x10 .f32 × IVec S32x10 32, r = found s t →
      iprop((arg4.view.loc (c : Thread nD τ) ↦[arg4.view.set]{fullShare} f4) ∗ (arg5.view.loc (c : Thread nD τ) ↦[arg5.view.set]{fullShare} f5)
        ∗ (arg7.view.loc (c : Thread nD τ) ↦[arg7.view.set]{fullShare} h7.unread s)
        ∗ (∀ old, ((arg4.view.loc (c : Thread nD τ) ↦[arg4.view.set]{fullShare} (arg4.access (piece t)).write (Elt F) f4
              (shapeCast S1x32x10 (weights (found s t).1) shapeCasts_S32x10_S1x32x10) Finset.univ)
            ∗ (arg5.view.loc (c : Thread nD τ) ↦[arg5.view.set]{fullShare} f5)
            ∗ (arg7.view.loc (c : Thread nD τ) ↦[arg7.view.set]{fullShare} h7.unread s)) -∗ Q ⟨(found s t).2, old⟩))
      ⊢ wp frame (wpE (defs₀ (F := F)) 𝒱₀ c none) E (putVals arg4 arg5 t r) Q := by
    intro r hr
    subst hr
    unfold putVals
    iintro ⟨H4, H5, H7, HQ⟩
    iapply (wp_load 𝒱₀ (c : Thread nD τ) none E (m := arg4) (View.setOn_subset_set _ _)) $$ H4
    iintro H4
    iapply (wp_store 𝒱₀ (c : Thread nD τ) none E (m := arg4) (r := piece t) (View.set_slice_subset _ _)) $$ H4
    iintro H4
    iapply (wp_load 𝒱₀ (c : Thread nD τ) none E (m := arg5) (View.setOn_subset_set _ _)) $$ H5
    iintro H5
    sl_step
    iapply HQ
    isplitl [H4]; · iexact H4
    isplitl [H5]; · iexact H5
    iexact H7
  unfold results
  by_cases hx : exhausted (heads s t) = 1#1
  · rw [if_pos hx]
    iintro ⟨H4, H5, H7, HQ⟩
    iapply (wp_load 𝒱₀ (c : Thread nD τ) none E (m := arg7) (View.setOn_subset_set _ _)) $$ H7
    iintro H7
    rw [show View.readAt (Elt F) arg7.view (Rect.unit (s := S256x8192) (k0_off65 t) S32x8192.size (k0_off65_inb t)).toLoadRect (h7.unread s)
      = rows s t from funext fun x => by rw [rows]; exact Memref.IsWhole.readAt_unread h7 s _ x]
    rw [wp_bind]
    iapply (wp_slow c E (rows s t))
    iapply (tail _ (by unfold found; rw [if_pos hx]))
    isplitl [H4]; · iexact H4
    isplitl [H5]; · iexact H5
    isplitl [H7]; · iexact H7
    iexact HQ
  · rw [if_neg hx]
    exact tail _ (by unfold found; rw [if_neg hx])

/-- One trip: its piece of both results stored, the products as they were. -/
theorem wp_trip (arg4 : Memref sig .tc .vmem S1x256x10 .f32) (arg5 : Memref sig .tc .vmem S1x256x10 .i32)
    (arg7 : Memref sig .tc .vmem S256x8192 .f32) (h7 : arg7.IsWhole) (s : Vec F S256x8192 .f32) (t : Fin k0_t1_loop.trips)
    (f4 : Buf (Elt F) (arg4.view.loc (c : Thread nD τ))) (f5 : Buf (Elt F) (arg5.view.loc (c : Thread nD τ))) (Q : Unit → sProp 𝕄) :
    iprop((arg4.view.loc (c : Thread nD τ) ↦[arg4.view.set]{fullShare} f4) ∗ (arg5.view.loc (c : Thread nD τ) ↦[arg5.view.set]{fullShare} f5)
        ∗ (arg7.view.loc (c : Thread nD τ) ↦[arg7.view.set]{fullShare} h7.unread s)
        ∗ (((arg4.view.loc (c : Thread nD τ) ↦[arg4.view.set]{fullShare} (arg4.access (piece t)).write (Elt F) f4
              (shapeCast S1x32x10 (weights (found s t).1) shapeCasts_S32x10_S1x32x10) Finset.univ)
            ∗ (arg5.view.loc (c : Thread nD τ) ↦[arg5.view.set]{fullShare} (arg5.access (piece t)).write (Elt F) f5
              (shapeCast S1x32x10 (found s t).2 shapeCasts_S32x10_S1x32x10) Finset.univ)
            ∗ (arg7.view.loc (c : Thread nD τ) ↦[arg7.view.set]{fullShare} h7.unread s)) -∗ Q ()))
      ⊢ wp frame (wpE (defs₀ (F := F)) 𝒱₀ c none) E (trip arg4 arg5 arg7 t) Q := by
  have h0 : 0 < 64 := by omega
  unfold trip
  iintro ⟨H4, H5, H7, HQ⟩
  iapply (wp_load 𝒱₀ (c : Thread nD τ) none E (m := arg7) (View.setOn_subset_set _ _)) $$ H7
  iintro H7
  rw [show View.readAt (Elt F) arg7.view (Rect.unit (s := S256x8192) (chunkOff t 0) S32x128.size (chunkOff_inb t 0 h0)).toLoadRect (h7.unread s)
    = chunk s t 0 h0 from funext fun x => by rw [chunk]; exact Memref.IsWhole.readAt_unread h7 s _ x]
  iapply (wp_readChunks c E arg7 h7 s t _ Q 63 1 _ _) $$ H7
  iintro H7
  rw [show (⟨listsFrom s t 63 1 (by omega) (firstLists (chunk s t 0 (by omega))), broadcast S32x128 0#32⟩ : Heads F) = heads s t from by rw [heads]]
  unfold finish
  rw [wp_bind]
  iapply (wp_results c E arg4 arg5 arg7 h7 s t f4 f5)
  isplitl [H4]; · iexact H4
  isplitl [H5]; · iexact H5
  isplitl [H7]; · iexact H7
  iintro %old ⟨H4, H5, H7⟩
  iapply (wp_store 𝒱₀ (c : Thread nD τ) none E (m := arg5) (r := piece t) (View.set_slice_subset _ _)) $$ H5
  iintro H5
  sl_step
  iapply HQ
  isplitl [H4]; · iexact H4
  isplitl [H5]; · iexact H5
  iexact H7

end Cert.Proof.Knn

end
-- ==== Proof.Body.lean ====
module

public import proofs.«01_k».proof.Proof.Steps
public import Idealize.ShloMosaic.Lib.VecWindow

/-!
The kernel body's run at a grid point: the normalised keys kept in the first scratch buffer at the batch's first point,
the scaled products in the second, and the loop over the eight row pieces.
-/

@[expose] public section

set_option maxRecDepth 16384

noncomputable section

namespace Cert.Proof.Knn

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The body, written out -/

/-- The test the body makes: whether the point is its batch's first. -/
def startWord (i : grid0.Coords) : BitVec 1 :=
  Scalar.cmpi .ne (Scalar.extui (Scalar.cmpi .eq (BitVec.ofNat 32 (i 1).val) 0#32) : BitVec 32) 0#32

/-- The body after the test: the products stored, then the trips. -/
def mainPart (arg2 : Memref sig .tc .vmem S1x256x64 .f32) (arg4 : Memref sig .tc .vmem S1x256x10 .f32) (arg5 : Memref sig .tc .vmem S1x256x10 .i32)
    (arg6 : Memref sig .tc .vmem S8192x64 .f32) (arg7 : Memref sig .tc .vmem S256x8192 .f32)
    (body : Fin k0_t1_loop.trips → Unit → Prog (TpuEff nD τ sig (Elt F) Λ₀ .tc) Unit) : Prog (TpuEff nD τ sig (Elt F) Λ₀ .tc) PUnit :=
  .op (.load arg2 (Rect.unit (s := S1x256x64) ![0, 0, 0] S1x256x64.size inb_S1x256x64_S1x256x64_0_0_0).toLoadRect (View.loadsAt_vmem h_S1x256x64)) fun (v3 : Vec F S1x256x64 .f32) =>
  .op (.load arg6 (Rect.unit (s := S8192x64) ![0, 0] S8192x64.size inb_S8192x64_S8192x64_0_0).toLoadRect (View.loadsAt_vmem h_S8192x64)) fun (v13 : Vec F S8192x64 .f32) =>
  .op (.load arg7 (Rect.unit (s := S256x8192) ![0, 0] S256x8192.size inb_S256x8192_S256x8192_0_0).toLoadRect (View.loadsAt_vmem h_S256x8192)) fun (_ : Vec F S256x8192 .f32) =>
  .op (.store arg7 (Rect.unit (s := S256x8192) ![0, 0] S256x8192.size inb_S256x8192_S256x8192_0_0) (Gen.k0_pay2 (F := F) v3 v13) Finset.univ (View.stores_vmem_bits_univ h_S256x8192 rfl) (.inl rfl)) fun _ =>
  Scf.Loop.for k0_t1_loop k0_t1_ok () body >>= fun _ => .ret ⟨⟩

/-- The whole body. -/
def wholeBody (i : grid0.Coords) (arg2 : Memref sig .tc .vmem S1x256x64 .f32) (arg3 : Memref sig .tc .vmem S1x8192x64 .f32)
    (arg4 : Memref sig .tc .vmem S1x256x10 .f32) (arg5 : Memref sig .tc .vmem S1x256x10 .i32)
    (arg6 : Memref sig .tc .vmem S8192x64 .f32) (arg7 : Memref sig .tc .vmem S256x8192 .f32)
    (body : Fin k0_t1_loop.trips → Unit → Prog (TpuEff nD τ sig (Elt F) Λ₀ .tc) Unit) : Prog (TpuEff nD τ sig (Elt F) Λ₀ .tc) PUnit :=
  if _h : startWord i = 1#1 then
    .op (.load arg3 (Rect.unit (s := S1x8192x64) ![0, 0, 0] S1x8192x64.size inb_S1x8192x64_S1x8192x64_0_0_0).toLoadRect (View.loadsAt_vmem h_S1x8192x64)) fun (v24 : Vec F S1x8192x64 .f32) =>
    .op (.load arg6 (Rect.unit (s := S8192x64) ![0, 0] S8192x64.size inb_S8192x64_S8192x64_0_0).toLoadRect (View.loadsAt_vmem h_S8192x64)) fun (_ : Vec F S8192x64 .f32) =>
    .op (.store arg6 (Rect.unit (s := S8192x64) ![0, 0] S8192x64.size inb_S8192x64_S8192x64_0_0) (Gen.k0_pay1 (F := F) v24) Finset.univ (View.stores_vmem_bits_univ h_S8192x64 rfl) (.inl rfl)) fun _ =>
    mainPart arg2 arg4 arg5 arg6 arg7 body
  else mainPart arg2 arg4 arg5 arg6 arg7 body

/-- The kernel is the body written out, its trips the trip written out. -/
theorem kernel_eq (i : grid0.Coords) (arg2 : Memref sig .tc .vmem S1x256x64 .f32) (harg2 : arg2.IsWhole) (arg3 : Memref sig .tc .vmem S1x8192x64 .f32) (harg3 : arg3.IsWhole)
    (arg4 : Memref sig .tc .vmem S1x256x10 .f32) (harg4 : arg4.IsWhole) (arg5 : Memref sig .tc .vmem S1x256x10 .i32) (harg5 : arg5.IsWhole)
    (arg6 : Memref sig .tc .vmem S8192x64 .f32) (harg6 : arg6.IsWhole) (arg7 : Memref sig .tc .vmem S256x8192 .f32) (harg7 : arg7.IsWhole) :
    cc0__topk_kernel (F := F) i arg2 harg2 arg3 harg3 arg4 harg4 arg5 harg5 arg6 harg6 arg7 harg7
      = wholeBody i arg2 arg3 arg4 arg5 arg6 arg7 (fun t _ => trip arg4 arg5 arg7 t) := by
  rw [Gen.cc0__topk_kernel_eq_skeleton,
    ← show Gen.k0_t1_body (F := F) i arg2 harg2 arg3 harg3 arg4 harg4 arg5 harg5 arg6 harg6 arg7 harg7 (iota .tc S32x128 32 [1] iota_S32x128_d1_w32)
      = fun t _ => trip arg4 arg5 arg7 t from funext fun t => funext fun _ => body_eq_trip i arg2 harg2 arg3 harg3 arg4 harg4 arg5 harg5 arg6 harg6 arg7 harg7 t]
  sl_kernel_rfl

/-! ## Whole-block loads and stores -/

variable {sp : Space} {sh : Shape} {e : EltTy}

/-- A load of a whole memref at contents that read `X` reads `X`. -/
theorem readAt_full (M : Memref sig .tc sp sh e) (h : M.IsWhole) (X : sh.Idx → Elt F e) (off : Fin sh.rank → ℕ) (inb : ∀ a, off a + sh.size a ≤ sh.size a) :
    View.readAt (Elt F) M.view (Rect.unit (s := sh) off sh.size inb).toLoadRect (h.unread X) = X :=
  funext fun x => (Memref.IsWhole.readAt_unread h X _ x).trans (congrArg X (Rect.emb_unit_full inb x))

/-- A store of the whole of a whole memref leaves it at the contents that read what was stored. -/
theorem write_full (M : Memref sig .tc sp sh e) (h : M.IsWhole) (f : M.view.ty.Contents (Elt F)) (off : Fin sh.rank → ℕ) (inb : ∀ a, off a + sh.size a ≤ sh.size a)
    (w : sh.Idx → Elt F e) :
    (M.access (Rect.unit (s := sh) off sh.size inb)).write (Elt F) f w Finset.univ = h.unread w := by
  apply h.eq_unread
  funext y
  have hy := View.read_slice_write_emb (v := M.view) (Val := Elt F) (Rect.unit (s := sh) off sh.size inb) f w (Finset.mem_univ y)
  rwa [Rect.emb_unit_full inb y] at hy

variable (c : Dev nD) (E : Set ℕ)

/-- A whole memref at the contents that read `X` is held at `X`. -/
theorem owns_unread {M : Memref sig .tc sp sh e} {h : M.IsWhole} {X : sh.Idx → Elt F e} :
    (M.view.loc (c : Thread nD τ) ↦[M.view.set]{fullShare} h.unread X) ⊢ (iprop(∃ f, ⌜M.view.read (Elt F) f = X⌝ ∗ (M.view.loc (c : Thread nD τ) ↦[M.view.set]{fullShare} f)) : sProp 𝕄) := by
  iintro H
  iexists _
  isplitr; · ipureintro; exact h.read_unread X
  iexact H

/-! ## The trips -/

/-- The loop leaves the two blocks in full. -/
theorem wp_trips (arg4 : Memref sig .tc .vmem S1x256x10 .f32) (h4 : arg4.IsWhole) (arg5 : Memref sig .tc .vmem S1x256x10 .i32) (h5 : arg5.IsWhole)
    (arg7 : Memref sig .tc .vmem S256x8192 .f32) (h7 : arg7.IsWhole) (s : Vec F S256x8192 .f32)
    (f4 : Buf (Elt F) (arg4.view.loc (c : Thread nD τ))) (f5 : Buf (Elt F) (arg5.view.loc (c : Thread nD τ))) (Q : Unit → sProp 𝕄) :
    iprop((arg4.view.loc (c : Thread nD τ) ↦[arg4.view.set]{fullShare} f4) ∗ (arg5.view.loc (c : Thread nD τ) ↦[arg5.view.set]{fullShare} f5)
        ∗ (arg7.view.loc (c : Thread nD τ) ↦[arg7.view.set]{fullShare} h7.unread s)
        ∗ (((arg4.view.loc (c : Thread nD τ) ↦[arg4.view.set]{fullShare} h4.unread (outVals s))
            ∗ (arg5.view.loc (c : Thread nD τ) ↦[arg5.view.set]{fullShare} h5.unread (outIdxs s))
            ∗ (arg7.view.loc (c : Thread nD τ) ↦[arg7.view.set]{fullShare} h7.unread s)) -∗ Q ()))
      ⊢ wp frame (wpE (defs₀ (F := F)) 𝒱₀ c none) E (Scf.Loop.for k0_t1_loop k0_t1_ok () fun t _ => trip arg4 arg5 arg7 t) Q := by
  iintro ⟨H4, H5, H7, HQ⟩
  iapply (Scf.wp_for frame (wpE (defs₀ (F := F)) 𝒱₀ c none) E k0_t1_loop.lb k0_t1_loop.ub k0_t1_loop.st k0_t1_ok ()
    (fun t _ => trip arg4 arg5 arg7 t)
    (fun k _ => iprop(∃ (g4 : Buf (Elt F) (arg4.view.loc (c : Thread nD τ))) (g5 : Buf (Elt F) (arg5.view.loc (c : Thread nD τ))),
      ⌜∀ i : S1x256x10.Idx, (i 1).val < 32 * k → arg4.view.read (Elt F) g4 i = outVals s i ∧ arg5.view.read (Elt F) g5 i = outIdxs s i⌝
      ∗ (arg4.view.loc (c : Thread nD τ) ↦[arg4.view.set]{fullShare} g4) ∗ (arg5.view.loc (c : Thread nD τ) ↦[arg5.view.set]{fullShare} g5)
      ∗ (arg7.view.loc (c : Thread nD τ) ↦[arg7.view.set]{fullShare} h7.unread s))) ?step)
  case step =>
    intro t _
    iintro ⟨%g4, %g5, %hg, H4, H5, H7⟩
    iapply (wp_trip c E arg4 arg5 arg7 h7 s t g4 g5)
    isplitl [H4]; · iexact H4
    isplitl [H5]; · iexact H5
    isplitl [H7]; · iexact H7
    iintro ⟨H4, H5, H7⟩
    iexists _, _
    isplitr
    rotate_left
    · isplitl [H4]; · iexact H4
      isplitl [H5]; · iexact H5
      iexact H7
    · ipureintro
      intro i hi
      by_cases hm : i ∈ (piece t).set
      · obtain ⟨x, rfl⟩ := (piece t).exists_idx_of_mem hm
        obtain ⟨ht, hx⟩ := tripOf_piece t x
        constructor
        · refine (View.read_slice_write_emb (v := arg4.view) (piece t) g4 _ (Finset.mem_univ x)).trans ?_
          show _ = shapeCast S1x32x10 (weights (found s (tripOf ((piece t).emb x))).1) _ (inTrip ((piece t).emb x))
          rw [ht, hx]
        · refine (View.read_slice_write_emb (v := arg5.view) (piece t) g5 _ (Finset.mem_univ x)).trans ?_
          show _ = shapeCast S1x32x10 (found s (tripOf ((piece t).emb x))).2 _ (inTrip ((piece t).emb x))
          rw [ht, hx]
      · have hm' : i ∉ Finset.univ.map (piece t).emb := by rwa [Rect.map_emb_univ]
        obtain ⟨a, b⟩ := hg i (not_mem_piece t i hm hi)
        exact ⟨(View.read_slice_write_of_not_mem (v := arg4.view) (piece t) g4 _ _ hm').trans a,
          (View.read_slice_write_of_not_mem (v := arg5.view) (piece t) g5 _ _ hm').trans b⟩
  isplitl [H4 H5 H7]
  · iexists f4, f5
    isplitr
    · ipureintro
      intro i hi
      omega
    isplitl [H4]; · iexact H4
    isplitl [H5]; · iexact H5
    iexact H7
  iintro %u ⟨%g4, %g5, %hg, H4, H5, H7⟩
  rw [show Scf.trips k0_t1_loop.lb k0_t1_loop.ub k0_t1_loop.st = 8 from trips_outer] at hg
  have hlt : ∀ i : S1x256x10.Idx, (i 1).val < 32 * 8 := fun i => (i 1).isLt
  obtain rfl : g4 = h4.unread (outVals s) := h4.eq_unread (funext fun i => (hg i (hlt i)).1)
  obtain rfl : g5 = h5.unread (outIdxs s) := h5.eq_unread (funext fun i => (hg i (hlt i)).2)
  iapply HQ
  isplitl [H4]; · iexact H4
  isplitl [H5]; · iexact H5
  iexact H7

/-! ## The body -/

/-- The body after the test. -/
theorem wp_mainPart (arg2 : Memref sig .tc .vmem S1x256x64 .f32) (h2 : arg2.IsWhole)
    (arg4 : Memref sig .tc .vmem S1x256x10 .f32) (h4 : arg4.IsWhole) (arg5 : Memref sig .tc .vmem S1x256x10 .i32) (h5 : arg5.IsWhole)
    (arg6 : Memref sig .tc .vmem S8192x64 .f32) (h6 : arg6.IsWhole) (arg7 : Memref sig .tc .vmem S256x8192 .f32) (h7 : arg7.IsWhole)
    (x : Vec F S1x256x64 .f32) (yn : Vec F S8192x64 .f32)
    (f4 : Buf (Elt F) (arg4.view.loc (c : Thread nD τ))) (f5 : Buf (Elt F) (arg5.view.loc (c : Thread nD τ)))
    (f7 : Buf (Elt F) (arg7.view.loc (c : Thread nD τ))) (Q : PUnit → sProp 𝕄) :
    iprop((arg2.view.loc (c : Thread nD τ) ↦[arg2.view.set]{fullShare} h2.unread x)
        ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} h6.unread yn)
        ∗ (arg7.view.loc (c : Thread nD τ) ↦[arg7.view.set]{fullShare} f7)
        ∗ (((arg2.view.loc (c : Thread nD τ) ↦[arg2.view.set]{fullShare} h2.unread x)
            ∗ (arg4.view.loc (c : Thread nD τ) ↦[arg4.view.set]{fullShare} h4.unread (outVals (Gen.k0_pay2 x yn)))
            ∗ (arg5.view.loc (c : Thread nD τ) ↦[arg5.view.set]{fullShare} h5.unread (outIdxs (Gen.k0_pay2 x yn)))
            ∗ (arg6.view.loc (c : Thread nD τ) ↦[arg6.view.set]{fullShare} h6.unread yn)
            ∗ (arg7.view.loc (c : Thread nD τ) ↦[arg7.view.set]{fullShare} h7.unread (Gen.k0_pay2 x yn))) -∗ Q ⟨⟩))
      ⊢ wp frame (wpE (defs₀ (F := F)) 𝒱₀ c none) E (mainPart arg2 arg4 arg5 arg6 arg7 fun t _ => trip arg4 arg5 arg7 t) Q := by
  unfold mainPart
  iintro ⟨H2, H4, H5, H6, H7, HQ⟩
  iapply (wp_load 𝒱₀ (c : Thread nD τ) none E (m := arg2) (View.setOn_subset_set _ _)) $$ H2
  iintro H2
  iapply (wp_load 𝒱₀ (c : Thread nD τ) none E (m := arg6) (View.setOn_subset_set _ _)) $$ H6
  iintro H6
  iapply (wp_load 𝒱₀ (c : Thread nD τ) none E (m := arg7) (View.setOn_subset_set _ _)) $$ H7
  iintro H7
  rw [readAt_full arg2 h2 x, readAt_full arg6 h6 yn]
  iapply (wp_store 𝒱₀ (c : Thread nD τ) none E (m := arg7)
    (r := Rect.unit (s := S256x8192) ![0, 0] S256x8192.size inb_S256x8192_S256x8192_0_0) (View.set_slice_subset _ _)) $$ H7
  iintro H7
  rw [write_full arg7 h7, wp_bind]
  iapply (wp_trips c E arg4 h4 arg5 h5 arg7 h7 (Gen.k0_pay2 x yn) f4 f5)
  isplitl [H4]; · iexact H4
  isplitl [H5]; · iexact H5
  isplitl [H7]; · iexact H7
  iintro ⟨H4, H5, H7⟩
  sl_step
  iapply HQ
  isplitl [H2]; · iexact H2
  isplitl [H4]; · iexact H4
  isplitl [H5]; · iexact H5
  isplitl [H6]; · iexact H6
  iexact H7

/-- What the first scratch buffer holds once the test is passed: the keys of the block at hand at a batch's first point,
what it held before at any other. -/
def keysAt (i : grid0.Coords) (y : Vec F S1x8192x64 .f32) (yn : Vec F S8192x64 .f32) : Vec F S8192x64 .f32 :=
  if startWord i = 1#1 then Gen.k0_pay1 y else yn

attribute [irreducible] startWord

/-- The body's run on whole memrefs. -/
theorem wp_kernel (i : grid0.Coords) (arg2 : Memref sig .tc .vmem S1x256x64 .f32) (h2 : arg2.IsWhole) (arg3 : Memref sig .tc .vmem S1x8192x64 .f32) (h3 : arg3.IsWhole)
    (arg4 : Memref sig .tc .vmem S1x256x10 .f32) (h4 : arg4.IsWhole) (arg5 : Memref sig .tc .vmem S1x256x10 .i32) (h5 : arg5.IsWhole)
    (arg6 : Memref sig .tc .vmem S8192x64 .f32) (h6 : arg6.IsWhole) (arg7 : Memref sig .tc .vmem S256x8192 .f32) (h7 : arg7.IsWhole)
    (x : Vec F S1x256x64 .f32) (y : Vec F S1x8192x64 .f32) (yn : Vec F S8192x64 .f32) (Q : PUnit → sProp 𝕄) :
    iprop(owns (c : Thread nD τ) arg2 fullShare x ∗ owns (c : Thread nD τ) arg3 fullShare y
        ∗ (∃ d, owns (c : Thread nD τ) arg4 fullShare d) ∗ (∃ d, owns (c : Thread nD τ) arg5 fullShare d)
        ∗ owns (c : Thread nD τ) arg6 fullShare yn ∗ (∃ d, owns (c : Thread nD τ) arg7 fullShare d)
        ∗ ((owns (c : Thread nD τ) arg2 fullShare x ∗ owns (c : Thread nD τ) arg3 fullShare y
            ∗ owns (c : Thread nD τ) arg4 fullShare (outVals (Gen.k0_pay2 x (keysAt i y yn)))
            ∗ owns (c : Thread nD τ) arg5 fullShare (outIdxs (Gen.k0_pay2 x (keysAt i y yn)))
            ∗ owns (c : Thread nD τ) arg6 fullShare (keysAt i y yn) ∗ (∃ d, owns (c : Thread nD τ) arg7 fullShare d)) -∗ Q ⟨⟩))
      ⊢ wp frame (wpE (defs₀ (F := F)) 𝒱₀ c none) E
          (cc0__topk_kernel (F := F) i arg2 h2 arg3 h3 arg4 h4 arg5 h5 arg6 h6 arg7 h7) Q := by
  rw [kernel_eq]
  unfold owns wholeBody keysAt
  by_cases hs : startWord i = 1#1
  · rw [dif_pos hs, if_pos hs]
    iintro ⟨⟨%f2, %e2, H2⟩, ⟨%f3, %e3, H3⟩, ⟨%d4, %f4, -, H4⟩, ⟨%d5, %f5, -, H5⟩, ⟨%f6, %e6, H6⟩, ⟨%d7, %f7, -, H7⟩, HQ⟩
    obtain rfl := h2.eq_unread e2
    obtain rfl := h3.eq_unread e3
    iapply (wp_load 𝒱₀ (c : Thread nD τ) none E (m := arg3) (View.setOn_subset_set _ _)) $$ H3
    iintro H3
    iapply (wp_load 𝒱₀ (c : Thread nD τ) none E (m := arg6) (View.setOn_subset_set _ _)) $$ H6
    iintro H6
    rw [readAt_full arg3 h3 y]
    iapply (wp_store 𝒱₀ (c : Thread nD τ) none E (m := arg6)
      (r := Rect.unit (s := S8192x64) ![0, 0] S8192x64.size inb_S8192x64_S8192x64_0_0) (View.set_slice_subset _ _)) $$ H6
    iintro H6
    rw [write_full arg6 h6]
    iapply (wp_mainPart c E arg2 h2 arg4 h4 arg5 h5 arg6 h6 arg7 h7 x (Gen.k0_pay1 y) f4 f5 f7)
    isplitl [H2]; · iexact H2
    isplitl [H4]; · iexact H4
    isplitl [H5]; · iexact H5
    isplitl [H6]; · iexact H6
    isplitl [H7]; · iexact H7
    iintro ⟨H2, H4, H5, H6, H7⟩
    iapply HQ
    isplitl [H2]; · iapply (owns_unread c) $$ H2
    isplitl [H3]; · iapply (owns_unread c) $$ H3
    isplitl [H4]; · iapply (owns_unread c) $$ H4
    isplitl [H5]; · iapply (owns_unread c) $$ H5
    isplitl [H6]; · iapply (owns_unread c) $$ H6
    iexists _
    iapply (owns_unread c) $$ H7
  · rw [dif_neg hs, if_neg hs]
    iintro ⟨⟨%f2, %e2, H2⟩, H3, ⟨%d4, %f4, -, H4⟩, ⟨%d5, %f5, -, H5⟩, ⟨%f6, %e6, H6⟩, ⟨%d7, %f7, -, H7⟩, HQ⟩
    obtain rfl := h2.eq_unread e2
    obtain rfl := h6.eq_unread e6
    iapply (wp_mainPart c E arg2 h2 arg4 h4 arg5 h5 arg6 h6 arg7 h7 x yn f4 f5 f7)
    isplitl [H2]; · iexact H2
    isplitl [H4]; · iexact H4
    isplitl [H5]; · iexact H5
    isplitl [H6]; · iexact H6
    isplitl [H7]; · iexact H7
    iintro ⟨H2, H4, H5, H6, H7⟩
    iapply HQ
    isplitl [H2]; · iapply (owns_unread c) $$ H2
    isplitl [H3]; · iexact H3
    isplitl [H4]; · iapply (owns_unread c) $$ H4
    isplitl [H5]; · iapply (owns_unread c) $$ H5
    isplitl [H6]; · iapply (owns_unread c) $$ H6
    iexists _
    iapply (owns_unread c) $$ H7

end Cert.Proof.Knn

end
-- ==== Proof.Run.lean ====
module

public import proofs.«01_k».proof.Proof.Body
public import proofs.«01_k».proof.Proof.Gen.KernelIdeal.Points
public import Idealize.ShloMosaic.Lib.Pipeline.FrameSuffix
public import Idealize.ShloMosaic.Lib.Pipeline.FrameBody

/-!
The whole program's run: the pipeline's proof data, the body's obligation, and the run of @main at any values.
-/

@[expose] public section

set_option maxRecDepth 16384

noncomputable section

namespace Cert.Proof.Knn

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's test holds at the points a batch starts at. -/
theorem startWord_iff : ∀ t : Fin cfg0.N, startWord (grid0.coords t) = 1#1 ↔ t.val % 8 = 0 := by
  unfold startWord
  decide +kernel

/-! ## What the body computes at a point -/

/-- The normalised keys of a point's batch. -/
def keys (c : Dev nD) (t : Fin cfg0.N) : Vec F S8192x64 .f32 := k0_pay1 (F := F) (iblk m c 1 t)

/-- A point's similarities. -/
def scores (c : Dev nD) (t : Fin cfg0.N) : Vec F S256x8192 .f32 := k0_pay2 (F := F) (iblk m c 0 t) (keys m c t)

/-- At a point that starts no batch the keys are the point before's. -/
theorem keys_succ (c : Dev nD) (t u : Fin cfg0.N) (hu : u.val = t.val + 1) (h8 : u.val % 8 ≠ 0) : keys m c u = keys m c t := by
  have hf : (cfg0.win 1).fetch u = false := by
    rw [← Bool.not_eq_true, fetch0_1]
    exact h8
  obtain ⟨h1, hix⟩ := (cfg0.win 1).index_eq_of_fetch rfl u hf
  have ht : (⟨u.val - 1, Nat.lt_of_le_of_lt (Nat.sub_le _ _) u.isLt⟩ : Fin cfg0.N) = t := Fin.ext (by simp only; omega)
  rw [ht] at hix
  have key : ∀ (i j : Fin 3 → ℕ) (hi : ∀ a, (i a + 1) * S1x8192x64.size a ≤ S4x8192x64.size a) (hj : ∀ a, (j a + 1) * S1x8192x64.size a ≤ S4x8192x64.size a),
      i = j → (((Memref.whole main_arg1).slice (Rect.block (s := S4x8192x64) S1x8192x64.size i hi) (fun _ => rfl)).view.read (Elt F) (V m c main_arg1) : Vec F S1x8192x64 .f32)
        = ((Memref.whole main_arg1).slice (Rect.block (s := S4x8192x64) S1x8192x64.size j hj) (fun _ => rfl)).view.read (Elt F) (V m c main_arg1) := by
    rintro i j hi hj rfl; rfl
  exact congrArg (k0_pay1 (F := F)) (key _ _ (Facts₀.hinb0_1 (grid0.coords u)) (Facts₀.hinb0_1 (grid0.coords t)) hix)

/-! ## The pipeline's proof data -/

/-- What the first scratch buffer holds before point `n`: the batch's keys unless a batch starts there. -/
def Carried (c : Dev nD) (n : ℕ) (f : Vec F S8192x64 .f32) : Prop :=
  ∀ u : Fin cfg0.N, u.val = n → u.val % 8 ≠ 0 → f = keys m c u

/-- The invariant before point `n`. -/
def Inv (c : Dev nD) (n : ℕ) : sProp 𝕄 :=
  iprop(((∃ f, ⌜Carried m c n f⌝ ∗ owns (c : Thread nD τ) (Memref.whole cc0_scratch0) fullShare f)
    ∗ (∃ f, owns (c : Thread nD τ) (Memref.whole cc0_scratch1) fullShare f)) ∗ ∃ r, prngReg c r)

/-- The arrays as found; after the body each input's block in place and each result's block found; the carried scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outVals (scores m c t)
    | ⟨3, _⟩ => outIdxs (scores m c t)
  Φ t := Inv m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outVals (scores m c t) := by dsimp only [dats]
theorem after0_3 (c : Dev nD) (t : Fin cfg0.N) : (dats m 0 c).after 3 t = outIdxs (scores m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The first scratch buffer holds the batch's keys once the test is passed. -/
theorem keysAt_eq (c : Dev nD) (t : Fin cfg0.N) (f : Vec F S8192x64 .f32) (hf : Carried m c t.val f) :
    keysAt (grid0.coords t) (iblk m c 1 t) f = keys m c t := by
  unfold keysAt
  split
  · rfl
  · next h => exact hf t rfl fun h8 => h ((startWord_iff t).mpr h8)

/-- The batch's keys are what the next point needs carried. -/
theorem carried_succ (c : Dev nD) (t : Fin cfg0.N) : Carried m c (t.val + 1) (keys m c t) :=
  fun u hu h8 => (keys_succ m c t u hu h8).symm

/-! ## The body's obligation -/

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1]
  rw [show (dats m 0 c).Φ t.succ = Inv m c (t.val + 1) from rfl, show (dats m 0 c).Φ t.castSucc = Inv m c t.val from rfl,
    show (dats m 0 c).owesAt () t.succ = (dats m 0 c).owesAt () t.castSucc from rfl, after0_0, after0_1, after0_2, after0_3]
  unfold Inv
  iintro ⟨⟨⟨⟨%f, %hf, Hs0⟩, Hs1⟩, Hp⟩, Ho, ⟨%d0, H0⟩, ⟨%d1, H1⟩, ⟨%d2, H2⟩, ⟨%d3, H3⟩⟩
  iapply (wp_kernel c Set.univ (grid0.coords t) _ _ _ _ _ _ _ _ _ _ _ _ (iblk m c 0 t) (iblk m c 1 t) f)
  rw [keysAt_eq m c t f hf]
  isplitl [H0]; · iexact H0
  isplitl [H1]; · iexact H1
  isplitl [H2]; · iexists _; iexact H2
  isplitl [H3]; · iexists _; iexact H3
  isplitl [Hs0]; · iexact Hs0
  isplitl [Hs1]; · iexact Hs1
  iintro ⟨H0, H1, H2, H3, Hs0, Hs1⟩
  isplitl [Hs0 Hs1 Hp]
  · isplitl [Hs0 Hs1]
    · isplitl [Hs0]
      · iexists _
        isplitr; · ipureintro; exact carried_succ m c t
        iexact Hs0
      iexact Hs1
    iexact Hp
  isplitl [Ho]; · iexact Ho
  isplitl [H0]; · iexact H0
  isplitl [H1]; · iexact H1
  isplitl [H2]; · iexact H2
  iexact H3

/-! ## The run -/

theorem enter (c : Dev nD) : (Pipeline.ΦA spec0 c : sProp 𝕄) ⊢ Inv m c 0 := by
  unfold Pipeline.ΦA Inv
  rw [scopedRest0_eq]
  simp only [owns_whole]
  iintro ⟨⟨⟨%f, H0⟩, H1⟩, Hp⟩
  isplitl [H0 H1]
  · isplitl [H0]
    · iexists f
      isplitr
      · ipureintro
        intro u hu h8
        omega
      iexact H0
    iexact H1
  iexact Hp

theorem leave (c : Dev nD) (n : ℕ) : Inv m c n ⊢ (Pipeline.ΦA spec0 c : sProp 𝕄) := by
  unfold Pipeline.ΦA Inv
  rw [scopedRest0_eq]
  simp only [owns_whole]
  iintro ⟨⟨⟨%f, -, H0⟩, H1⟩, Hp⟩
  isplitl [H0 H1]
  · isplitl [H0]
    · iexists f
      iexact H0
    iexact H1
  iexact Hp

set_option backward.isDefEq.respectTransparency.types false in
/-- Every weakly fair execution of @main from zero counters terminates, each array of the pipeline ending at what the
proof data computes, the lines after it run on that, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hin := fun c => enter m c) (hout := fun c => leave m c _)

/-- The run, its two arguments left as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.Proof.Knn

end
-- ==== Proof.Same.lean ====
module

public import proofs.«01_k».proof.Defs
public import proofs.«01_k».proof.Proof.Gen.Kernel
public import proofs.«01_k».proof.Proof.Gen.KernelIdeal
public import Idealize.ShloMosaic.Lib.Tactic

/-! The printed kernel and its reading over the extended reals are one text: their body tables are equal. -/

@[expose] public section

set_option maxRecDepth 65536

noncomputable section

namespace Cert.Proof.Knn

open Idealize.ShloMosaic

set_option backward.isDefEq.respectTransparency.types false in
/-- The kernel function of the two programs. -/
theorem kernel_same (i : Cert.Kernel.grid0.Coords) (a b c d e f g h k l m n) :
    (Cert.Kernel.cc0__topk_kernel (F := Bits) i a b c d e f g h k l m n) = Cert.KernelIdeal.cc0__topk_kernel i a b c d e f g h k l m n := by
  sl_kernel_rfl

set_option backward.isDefEq.respectTransparency.types false in
/-- The kernel bodies of the two programs. -/
theorem bodies_same : Cert.Kernel.defs₀ (F := Bits) = Cert.KernelIdeal.defs₀ := by
  unfold Cert.Kernel.defs₀ Cert.KernelIdeal.defs₀
  congr 1
  funext l x
  match l, x with
  | 0, (t, s) => exact kernel_same _ _ _ _ _ _ _ _ _ _ _ _ _

set_option backward.isDefEq.respectTransparency.types false in
/-- The whole body tables of the two programs. -/
theorem defs_same : Cert.Kernel.defs (F := Bits) = Cert.KernelIdeal.defs := by
  unfold Cert.Kernel.defs Cert.KernelIdeal.defs
  rw [bodies_same]
  rfl

end Cert.Proof.Knn

end
-- ==== Proof.TopSpec.lean ====
module

public import Idealize.ShloMosaic.Lib.SortPrefix
public import Idealize.ShloMosaic.Lib.ValueIdx
public import Idealize.ShloMosaic.PureOps.Ideal.Laws

/-!
The order in which a row's columns are taken: the greater value first, of equal values the lower column. `top w p` is
the column taken at place `p`; it is the one column not taken before it that no other such column beats.
-/

@[expose] public section

set_option maxRecDepth 16384

noncomputable section

namespace Cert.Proof.Knn

open Idealize.ShloMosaic

/-- Column `i` goes before column `j`. -/
def Beats {n : ℕ} (w : Fin n → EReal) (i j : Fin n) : Prop := w j < w i ∨ (w i = w j ∧ i < j)

theorem Beats.total {n : ℕ} {w : Fin n → EReal} {i j : Fin n} (h : ¬ Beats w i j) (hne : i ≠ j) : Beats w j i := by
  unfold Beats at *
  push Not at h
  rcases lt_or_eq_of_le h.1 with h1 | h1
  · exact Or.inl h1
  · refine Or.inr ⟨h1.symm, lt_of_le_of_ne (h.2 h1) (Ne.symm hne)⟩

theorem Beats.le {n : ℕ} {w : Fin n → EReal} {i j : Fin n} (h : ¬ Beats w i j) : w i ≤ w j :=
  not_lt.1 fun hl => h (Or.inl hl)

theorem Beats.pos_le {n : ℕ} {w : Fin n → EReal} {i j : Fin n} (h : ¬ Beats w i j) (he : w i = w j) : j ≤ i :=
  not_lt.1 fun hl => h (Or.inr ⟨he, hl⟩)

/-- The order as a test: by value, then by column. -/
def beatsTest {n : ℕ} (w : Fin n → EReal) (i j : Fin n) : Bool := by
  classical exact decide (w j < w i) || (decide (w i = w j) && decide (i < j))

theorem beatsTest_iff {n : ℕ} (w : Fin n → EReal) (i j : Fin n) : beatsTest w i j = true ↔ Beats w i j := by
  unfold beatsTest Beats
  simp

theorem beatsTest_false_iff {n : ℕ} (w : Fin n → EReal) (i j : Fin n) : beatsTest w i j = false ↔ ¬ Beats w i j := by
  rw [← beatsTest_iff, Bool.not_eq_true]

theorem beatsTest_total {n : ℕ} (w : Fin n → EReal) : StrictTotalBefore (beatsTest w) where
  irrefl a := by rw [beatsTest_false_iff]; unfold Beats; simp
  trans a b c hab hbc := by
    rw [beatsTest_iff] at *
    unfold Beats at *
    rcases hab with h | ⟨e, h⟩ <;> rcases hbc with h' | ⟨e', h'⟩
    · exact Or.inl (h'.trans h)
    · exact Or.inl (e' ▸ h)
    · exact Or.inl (e ▸ h')
    · exact Or.inr ⟨e.trans e', h.trans h'⟩
  total a b hne := by
    simp only [beatsTest_iff]
    by_cases h : Beats w a b
    · exact Or.inl h
    · exact Or.inr (Beats.total h hne)

/-- Two tests that agree on a later element against an earlier one sort an increasing list alike. -/
theorem stableSort_of_later {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    show insertBefore R a (stableSort R l) = insertBefore R' a (stableSort R' l)
    rw [ih hl.2]
    exact insertBefore_congr R R' a _ fun b hb => h a b (hl.1 b ((perm_stableSort R' l).mem_iff.1 hb))

/-- Sorting by the value alone puts a lower column first where values are equal. -/
theorem sortedFrom_value {n : ℕ} (w : Fin n → EReal) (R : Fin n → Fin n → Bool) (hR : ∀ a b, R a b = true ↔ w b < w a) :
    sortedFrom R = sortedFrom (beatsTest w) := by
  have e : sortPositions n R = sortPositions n (beatsTest w) :=
    stableSort_of_later R _ _ (List.pairwise_lt_finRange n) fun a b hab => by
      rw [Bool.eq_iff_iff, hR, beatsTest_iff]
      unfold Beats
      refine ⟨Or.inl, fun h => h.resolve_right fun h' => absurd h'.2 (not_lt.2 hab.le)⟩
  funext k
  unfold sortedFrom
  simp only [List.get_eq_getElem, Fin.val_cast, e]

/-- The column taken at place `p`. -/
def top (w : Fin 8192 → EReal) (p : ℕ) : Fin 8192 := sortedFrom (beatsTest w) ⟨p % 8192, Nat.mod_lt _ (by decide)⟩

theorem top_inj (w : Fin 8192 → EReal) {p q : ℕ} (hp : p < 8192) (hq : q < 8192) (h : top w p = top w q) : p = q := by
  have := sortedFrom_injective _ h
  rw [Fin.mk.injEq, Nat.mod_eq_of_lt hp, Nat.mod_eq_of_lt hq] at this
  exact this

theorem top_surj (w : Fin 8192 → EReal) (j : Fin 8192) : ∃ p < 8192, top w p = j := by
  obtain ⟨k, hk⟩ := sortedFrom_surjective (beatsTest w) j
  exact ⟨k.val, k.isLt, (congrArg (sortedFrom (beatsTest w)) (Fin.ext (Nat.mod_eq_of_lt k.isLt))).trans hk⟩

theorem top_order (w : Fin 8192 → EReal) {p q : ℕ} (hq : q < 8192) (h : p < q) : ¬ Beats w (top w q) (top w p) := by
  rw [← beatsTest_false_iff]
  refine sortedFrom_noInversion (beatsTest w) (beatsTest w) (fun a b h => (beatsTest_total w).asymm a b h) (fun _ _ h => h)
    (beatsTest_total w).negTrans _ _ ?_
  rw [Fin.mk_lt_mk, Nat.mod_eq_of_lt hq, Nat.mod_eq_of_lt (h.trans hq)]
  exact h

/-- No column left beats the one taken. -/
theorem top_best (w : Fin 8192 → EReal) {p : ℕ} (i : Fin 8192) (h : ∀ q < p, top w q ≠ i) : ¬ Beats w i (top w p) := by
  obtain ⟨r, hr, rfl⟩ := top_surj w i
  rcases lt_trichotomy r p with h1 | h1 | h1
  · exact absurd rfl (h r h1)
  · rw [h1]
    unfold Beats; simp
  · exact top_order w hr h1

/-- The column taken was not taken before. -/
theorem top_new (w : Fin 8192 → EReal) {p : ℕ} (hp : p < 8192) : ∀ q < p, top w q ≠ top w p := fun q hq h =>
  absurd (top_inj w (hq.trans hp) hp h) hq.ne

attribute [irreducible] top

end Cert.Proof.Knn

end
-- ==== Proof.Lane.lean ====
module

public import proofs.«01_k».proof.Proof.TopSpec

/-!
One lane: its 64 entries, one of each chunk, in the order they are taken. Three registers hold the first three of the
chunks seen so far; and the columns a row takes from a lane are the first so many of that lane's order.
-/

@[expose] public section

set_option maxRecDepth 16384

noncomputable section

namespace Cert.Proof.Knn

open Idealize.ShloMosaic

/-! ## The order of the chunks seen -/

/-- Chunk `x` goes before chunk `y`. -/
def Ahead (a : ℕ → EReal) (x y : ℕ) : Prop := a y < a x ∨ (a x = a y ∧ x < y)

theorem Ahead.ge {a : ℕ → EReal} {x y : ℕ} (h : Ahead a x y) : a y ≤ a x := by
  rcases h with h | h
  · exact h.le
  · exact h.1.ge

theorem Ahead.irrefl {a : ℕ → EReal} {x : ℕ} : ¬ Ahead a x x := by unfold Ahead; simp

/-- Chunk `n`, seen last, put into the order. -/
def put (a : ℕ → EReal) (n : ℕ) : List ℕ → List ℕ
  | [] => [n]
  | x :: l => if a x < a n then n :: x :: l else x :: put a n l

/-- The first `n` chunks in order. -/
def seen (a : ℕ → EReal) : ℕ → List ℕ
  | 0 => []
  | n + 1 => put a n (seen a n)

theorem mem_put (a : ℕ → EReal) (n : ℕ) (l : List ℕ) (x : ℕ) : x ∈ put a n l ↔ x = n ∨ x ∈ l := by
  induction l with
  | nil => simp [put]
  | cons y l ih =>
    unfold put
    split
    · simp
    · simp only [List.mem_cons, ih]
      tauto

theorem length_put (a : ℕ → EReal) (n : ℕ) (l : List ℕ) : (put a n l).length = l.length + 1 := by
  induction l with
  | nil => rfl
  | cons y l ih =>
    unfold put
    split
    · rfl
    · simp [ih]

theorem mem_seen (a : ℕ → EReal) (n x : ℕ) : x ∈ seen a n ↔ x < n := by
  induction n with
  | zero => simp [seen]
  | succ n ih =>
    rw [seen, mem_put, ih]
    omega

theorem length_seen (a : ℕ → EReal) (n : ℕ) : (seen a n).length = n := by
  induction n with
  | zero => rfl
  | succ n ih => rw [seen, length_put, ih]

theorem pairwise_put (a : ℕ → EReal) (n : ℕ) (l : List ℕ) (h : l.Pairwise (Ahead a)) (hl : ∀ x ∈ l, x < n) :
    (put a n l).Pairwise (Ahead a) := by
  induction l with
  | nil => simp [put]
  | cons y l ih =>
    rw [List.pairwise_cons] at h
    unfold put
    split
    · rename_i hy
      refine List.pairwise_cons.2 ⟨?_, List.pairwise_cons.2 h⟩
      intro z hz
      rcases List.mem_cons.1 hz with rfl | hz
      · exact Or.inl hy
      · exact Or.inl ((h.1 z hz).ge.trans_lt hy)
    · rename_i hy
      refine List.pairwise_cons.2 ⟨?_, ih h.2 fun x hx => hl x (List.mem_cons_of_mem _ hx)⟩
      intro z hz
      rcases (mem_put a n l z).1 hz with rfl | hz
      · rcases lt_or_eq_of_le (not_lt.1 hy) with h1 | h1
        · exact Or.inl h1
        · exact Or.inr ⟨h1.symm, hl y List.mem_cons_self⟩
      · exact h.1 z hz

theorem pairwise_seen (a : ℕ → EReal) (n : ℕ) : (seen a n).Pairwise (Ahead a) := by
  induction n with
  | zero => exact List.Pairwise.nil
  | succ n ih => exact pairwise_put a n _ ih fun x hx => (mem_seen a n x).1 hx

/-! ## The three registers -/

/-- Three values and the words of the chunks they came from. -/
structure Regs where
  t1 : EReal
  t2 : EReal
  t3 : EReal
  i1 : BitVec 32
  i2 : BitVec 32
  i3 : BitVec 32

/-- A chunk's value, the least one for no chunk. -/
def valOf (a : ℕ → EReal) (o : Option ℕ) : EReal := o.elim ⊥ a
/-- A chunk's word, zero for no chunk. -/
def wordOf (o : Option ℕ) : BitVec 32 := o.elim 0#32 (BitVec.ofNat 32)

/-- The registers over an order. -/
def regsOf (a : ℕ → EReal) (l : List ℕ) : Regs :=
  ⟨valOf a l[0]?, valOf a l[1]?, valOf a l[2]?, wordOf l[0]?, wordOf l[1]?, wordOf l[2]?⟩

open Classical in
/-- A value put into the registers. -/
def Regs.insert (s : Regs) (v : EReal) (i : BitVec 32) : Regs :=
  ⟨if s.t1 < v then v else s.t1,
   if s.t2 < v then (if s.t1 < v then s.t1 else v) else s.t2,
   if s.t3 < v then (if s.t2 < v then s.t2 else v) else s.t3,
   if s.t1 < v then i else s.i1,
   if s.t2 < v then (if s.t1 < v then s.i1 else i) else s.i2,
   if s.t3 < v then (if s.t2 < v then s.i2 else i) else s.i3⟩

theorem regsOf_put (a : ℕ → EReal) (n : ℕ) (l : List ℕ) (h : l.Pairwise (Ahead a)) (ha : a n ≠ ⊥) :
    regsOf a (put a n l) = (regsOf a l).insert (a n) (BitVec.ofNat 32 n) := by
  have hb : ⊥ < a n := bot_lt_iff_ne_bot.2 ha
  match l, h with
  | [], _ => simp [put, regsOf, Regs.insert, valOf, wordOf, hb]
  | [x], _ => by_cases h1 : a x < a n <;> simp [put, regsOf, Regs.insert, valOf, wordOf, hb, h1]
  | [x, y], h =>
    have hxy : a y ≤ a x := Ahead.ge ((List.pairwise_cons.1 h).1 y (by simp))
    by_cases h1 : a x < a n
    · have h2 := hxy.trans_lt h1
      simp [put, regsOf, Regs.insert, valOf, wordOf, hb, h1, h2]
    · by_cases h2 : a y < a n <;> simp [put, regsOf, Regs.insert, valOf, wordOf, hb, h1, h2]
  | x :: y :: z :: l, h =>
    have hxy : a y ≤ a x := Ahead.ge ((List.pairwise_cons.1 h).1 y (by simp))
    have hyz : a z ≤ a y := Ahead.ge ((List.pairwise_cons.1 (List.pairwise_cons.1 h).2).1 z (by simp))
    by_cases h1 : a x < a n
    · have h2 := hxy.trans_lt h1
      have h3 := hyz.trans_lt h2
      simp [put, regsOf, Regs.insert, valOf, wordOf, h1, h2, h3]
    · by_cases h2 : a y < a n
      · have h3 := hyz.trans_lt h2
        simp [put, regsOf, Regs.insert, valOf, wordOf, h1, h2, h3]
      · by_cases h3 : a z < a n <;> simp [put, regsOf, Regs.insert, valOf, wordOf, h1, h2, h3]

/-! ## A lane of a row -/

/-- The column of lane `l` in chunk `c`. -/
def colAt (c l : ℕ) : Fin 8192 := ⟨(128 * c + l) % 8192, Nat.mod_lt _ (by decide)⟩

theorem colAt_val {c l : ℕ} (hc : c < 64) (hl : l < 128) : (colAt c l).val = 128 * c + l := Nat.mod_eq_of_lt (by omega)

theorem colAt_self (j : Fin 8192) : colAt (j.val / 128) (j.val % 128) = j := by
  apply Fin.ext
  have := j.isLt
  rw [colAt_val (by omega) (by omega)]
  omega

/-- The entries of lane `l` by chunk. -/
def laneVal (w : Fin 8192 → EReal) (l c : ℕ) : EReal := w (colAt c l)

/-- The chunk at place `k` of lane `l`'s order. -/
def lane (w : Fin 8192 → EReal) (l k : ℕ) : ℕ := ((seen (laneVal w l) 64)[k]?).getD 0

theorem lane_get (w : Fin 8192 → EReal) (l : ℕ) {k : ℕ} (hk : k < 64) : (seen (laneVal w l) 64)[k]? = some (lane w l k) := by
  unfold lane
  rw [List.getElem?_eq_getElem (by rw [length_seen]; exact hk)]
  rfl

theorem lane_lt (w : Fin 8192 → EReal) (l : ℕ) {k : ℕ} (hk : k < 64) : lane w l k < 64 :=
  (mem_seen (laneVal w l) 64 _).1 (List.mem_of_getElem? (lane_get w l hk))

theorem lane_surj (w : Fin 8192 → EReal) (l : ℕ) {c : ℕ} (hc : c < 64) : ∃ m < 64, lane w l m = c := by
  obtain ⟨m, hm, e⟩ := List.getElem_of_mem ((mem_seen (laneVal w l) 64 c).2 hc)
  have hm' : m < 64 := by rw [length_seen] at hm; exact hm
  refine ⟨m, hm', ?_⟩
  have := lane_get w l hm'
  rw [List.getElem?_eq_getElem hm, Option.some.injEq] at this
  rw [← this, e]

theorem lane_order (w : Fin 8192 → EReal) (l : ℕ) {k m : ℕ} (hm : m < 64) (h : k < m) :
    Ahead (laneVal w l) (lane w l k) (lane w l m) := by
  have hp := pairwise_seen (laneVal w l) 64
  have hkl : k < (seen (laneVal w l) 64).length := by rw [length_seen]; omega
  have hml : m < (seen (laneVal w l) 64).length := by rw [length_seen]; omega
  have e1 := lane_get w l (h.trans hm)
  have e2 := lane_get w l hm
  rw [List.getElem?_eq_getElem hkl, Option.some.injEq] at e1
  rw [List.getElem?_eq_getElem hml, Option.some.injEq] at e2
  rw [← e1, ← e2]
  exact List.pairwise_iff_getElem.1 hp k m hkl hml h

attribute [irreducible] lane

theorem lane_inj (w : Fin 8192 → EReal) (l : ℕ) {k m : ℕ} (hk : k < 64) (hm : m < 64) (h : lane w l k = lane w l m) : k = m := by
  rcases lt_trichotomy k m with h1 | h1 | h1
  · have h2 := lane_order w l hm h1
    rw [h] at h2
    exact absurd h2 Ahead.irrefl
  · exact h1
  · have h2 := lane_order w l hk h1
    rw [h] at h2
    exact absurd h2 Ahead.irrefl

/-- The place `k` of lane `l` as a column of the row. -/
def laneCol (w : Fin 8192 → EReal) (l k : ℕ) : Fin 8192 := colAt (lane w l k) l

theorem laneCol_val (w : Fin 8192 → EReal) {l k : ℕ} (hl : l < 128) (hk : k < 64) :
    (laneCol w l k).val = 128 * lane w l k + l := colAt_val (lane_lt w l hk) hl

theorem laneCol_beats (w : Fin 8192 → EReal) {l k m : ℕ} (hl : l < 128) (hm : m < 64) (h : k < m) :
    Beats w (laneCol w l k) (laneCol w l m) := by
  rcases lane_order w l hm h with h1 | ⟨h1, h2⟩
  · exact Or.inl h1
  · refine Or.inr ⟨h1, ?_⟩
    rw [Fin.lt_def, laneCol_val w hl (h.trans hm), laneCol_val w hl hm]
    omega

/-- How many of the first `p` columns taken lie in lane `l`. -/
def cnt (w : Fin 8192 → EReal) (l : ℕ) : ℕ → ℕ
  | 0 => 0
  | p + 1 => cnt w l p + if (top w p).val % 128 = l then 1 else 0

/-- The columns taken from a lane are the first of its order; and the next one taken is the next of its lane. -/
theorem taken_iff (w : Fin 8192 → EReal) (p : ℕ) (hp : p ≤ 8192) : ∀ l < 128, ∀ m < 64,
    (∃ q < p, top w q = laneCol w l m) ↔ m < cnt w l p := by
  induction p with
  | zero => intro l _ m _; simp [cnt]
  | succ p ih =>
    intro l hl m hm
    have ih := ih (by omega)
    have hsplit : (∃ q < p + 1, top w q = laneCol w l m) ↔ m < cnt w l p ∨ top w p = laneCol w l m := by
      rw [← ih l hl m hm]
      constructor
      · rintro ⟨q, hq, e⟩
        rcases Nat.lt_succ_iff_lt_or_eq.1 hq with h | rfl
        · exact Or.inl ⟨q, h, e⟩
        · exact Or.inr e
      · rintro (⟨q, hq, e⟩ | e)
        · exact ⟨q, by omega, e⟩
        · exact ⟨p, by omega, e⟩
    rw [hsplit, cnt]
    by_cases hlane : (top w p).val % 128 = l
    · rw [if_pos hlane]
      have hj := (top w p).isLt
      obtain ⟨m', hm', e'⟩ := lane_surj w l (c := (top w p).val / 128) (by omega)
      have ej : top w p = laneCol w l m' := by
        unfold laneCol
        rw [e', ← hlane, colAt_self]
      have hge : ¬ m' < cnt w l p := fun h => by
        obtain ⟨q, hq, e⟩ := (ih l hl m' hm').2 h
        exact top_new w (by omega) q hq (e.trans ej.symm)
      have hle : ¬ cnt w l p < m' := fun h => by
        have hb := laneCol_beats w hl hm' h
        rw [← ej] at hb
        refine top_best w (p := p) (laneCol w l (cnt w l p)) ?_ hb
        intro q hq e
        exact absurd ((ih l hl _ (by omega)).1 ⟨q, hq, e⟩) (lt_irrefl _)
      have hm'' : m' = cnt w l p := by omega
      constructor
      · rintro (h | h)
        · omega
        · have : laneCol w l m' = laneCol w l m := ej.symm.trans h
          have h2 := congrArg Fin.val this
          rw [laneCol_val w hl hm', laneCol_val w hl hm] at h2
          have := lane_inj w l hm' hm (by omega)
          omega
      · intro h
        by_cases h' : m < cnt w l p
        · exact Or.inl h'
        · refine Or.inr ?_
          have : m = m' := by omega
          rw [this, ej]
    · rw [if_neg hlane, Nat.add_zero]
      refine or_iff_left fun e => hlane ?_
      rw [e, laneCol_val w hl hm]
      omega

/-- The column taken next is the next one of its lane's order. -/
theorem top_eq_laneCol (w : Fin 8192 → EReal) {p : ℕ} (hp : p < 8192) :
    top w p = laneCol w ((top w p).val % 128) (cnt w ((top w p).val % 128) p) := by
  have hj := (top w p).isLt
  obtain ⟨m, hm, e⟩ := lane_surj w ((top w p).val % 128) (c := (top w p).val / 128) (by omega)
  have ej : top w p = laneCol w ((top w p).val % 128) m := by
    unfold laneCol
    rw [e, colAt_self]
  have h1 := (taken_iff w (p + 1) hp _ (by omega) m hm).1 ⟨p, by omega, ej⟩
  have h2 : ¬ m < cnt w ((top w p).val % 128) p := fun h => by
    obtain ⟨q, hq, e⟩ := (taken_iff w p hp.le _ (by omega) m hm).2 h
    exact top_new w hp q hq (e.trans ej.symm)
  rw [cnt, if_pos rfl] at h1
  have : m = cnt w ((top w p).val % 128) p := by omega
  rw [← this]
  exact ej

/-- The next of a lane's order has not been taken. -/
theorem laneCol_new (w : Fin 8192 → EReal) {p l : ℕ} (hp : p ≤ 8192) (hl : l < 128) (hk : cnt w l p < 64) :
    ∀ q < p, top w q ≠ laneCol w l (cnt w l p) := fun q hq e =>
  absurd ((taken_iff w p hp l hl _ hk).1 ⟨q, hq, e⟩) (lt_irrefl _)

end Cert.Proof.Knn

end
-- ==== Proof.RowMax.lean ====
module

public import Idealize.ShloMosaic.Lib.ValueIdx
public import Idealize.ShloMosaic.Lib.ValueLayout
public import Idealize.ShloMosaic.Lib.ValueLayoutCasts
public import Idealize.ShloMosaic.Lib.IdealHost
public import Idealize.ShloMosaic.PureOps.Ideal.Laws

/-!
A row's greatest value and the least word among the places that hold it, each read off one place that is known to be
the one meant.
-/

@[expose] public section

set_option maxRecDepth 16384

noncomputable section

namespace Cert.Proof.Knn

open Idealize.ShloMosaic Idealize.ShloMosaic.ValueIdx

variable {R n : ℕ}

/-- The word of minus infinity. -/
theorem negInf_word : Ideal.ofBits .f32 0xFF800000#32 = ⊥ := by simp [Ideal.ofBits, Ideal.ieee]

/-- A one-column vector spread over the lanes. -/
theorem spread_at {α : Type} (v : (⟨2, ![R, 1]⟩ : Shape).Idx → α) (h : (⟨2, ![R, 1]⟩ : Shape).Broadcasts ⟨2, ![R, n]⟩)
    (r : Fin R) (k : Fin n) : broadcastTo ⟨2, ![R, n]⟩ v h (ix2 r k) = v (ix2 r 0) := by
  refine broadcastTo_apply v h (ix2 r k) (ix2 r (0 : Fin 1)) fun ax => ?_
  match ax with
  | ⟨0, _⟩ =>
    show r.val = if R = 1 then 0 else r.val
    split
    · have := r.isLt
      omega
    · rfl
  | ⟨1, _⟩ => rfl

theorem lift_row (h : Shape.Reduces ⟨2, ![R, n]⟩ [1] ⟨1, ![R]⟩) (r : Fin R) (k : Fin n) : h.lift (ix1 r) k = ix2 r k := by
  funext a
  match a with
  | ⟨0, _⟩ => exact Fin.ext rfl
  | ⟨1, _⟩ => exact Fin.ext rfl

theorem fold_max_at (f : Fin n → EReal) (j : Fin n) (hj : ∀ i, f i ≤ f j) :
    (Finset.univ : Finset (Fin n)).fold max ⊥ f = f j := by
  apply le_antisymm
  · rw [Finset.fold_max_le]
    exact ⟨bot_le, fun i _ => hj i⟩
  · rw [Finset.le_fold_max]
    exact Or.inr ⟨j, Finset.mem_univ _, le_rfl⟩

/-- The maximum of a row, given the place that holds it. -/
theorem rowMax_at (x : FVec Ideal ⟨2, ![R, n]⟩ .f32) (h : Shape.Reduces ⟨2, ![R, n]⟩ [1] ⟨1, ![R]⟩) (hφ hacc)
    (hc : (⟨1, ![R]⟩ : Shape).ShapeCasts ⟨2, ![R, 1]⟩) (r : Fin R) (u : Fin 1) (j : Fin n)
    (hj : ∀ i, x (ix2 r i) ≤ x (ix2 r j)) :
    shapeCast ⟨2, ![R, 1]⟩ (multiReduction .maximumf [1] ⟨1, ![R]⟩ x 0xFF800000#32 h hφ hacc) hc (ix2 r u) = x (ix2 r j) := by
  rw [shapeCast_a_a1_apply, Ideal.multiReduction_maximumf_single]
  have e : (fun i : Fin n => x (h.lift (ix1 r) i)) = fun i => x (ix2 r i) := funext fun i => by rw [lift_row]
  have e' := fold_max_at (fun i => x (ix2 r i)) j hj
  rw [← e, ← negInf_word] at e'
  exact e'

theorem toInt_minsi (a b : BitVec 32) : (IntOp.minsi a b).toInt = min a.toInt b.toInt := by
  unfold IntOp.minsi
  by_cases h : a.slt b
  · rw [if_pos h]
    rw [BitVec.slt_iff_toInt_lt] at h
    omega
  · rw [if_neg h]
    rw [BitVec.slt_iff_toInt_lt] at h
    omega

theorem toInt_maxsi (a b : BitVec 32) : (IntOp.maxsi a b).toInt = max a.toInt b.toInt := by
  unfold IntOp.maxsi
  by_cases h : b.slt a
  · rw [if_pos h]
    rw [BitVec.slt_iff_toInt_lt] at h
    omega
  · rw [if_neg h]
    rw [BitVec.slt_iff_toInt_lt] at h
    omega

/-- A word is at most the greatest signed one. -/
theorem toInt_le_top (a : BitVec 32) : a.toInt ≤ (2147483647#32 : BitVec 32).toInt := by
  have h : (2147483647#32 : BitVec 32).toInt = 2147483647 := by decide
  have := BitVec.toInt_lt (x := a)
  rw [h]
  omega

theorem fold_minsi_at (f : Fin n → BitVec 32) (j : Fin n) (hj : ∀ i, (f j).toInt ≤ (f i).toInt) :
    (Finset.univ : Finset (Fin n)).fold IKind.minsi.op 2147483647#32 f = f j := by
  apply BitVec.eq_of_toInt_eq
  have hf := Finset.fold_hom (op := IKind.minsi.op) (op' := min) (s := (Finset.univ : Finset (Fin n))) (b := 2147483647#32)
    (f := f) (m := BitVec.toInt) toInt_minsi
  rw [← hf]
  apply le_antisymm
  · rw [Finset.fold_min_le]
    exact Or.inr ⟨j, Finset.mem_univ _, le_rfl⟩
  · rw [Finset.le_fold_min]
    exact ⟨toInt_le_top _, fun i _ => hj i⟩

/-- The least word of a row, given the place that holds it. -/
theorem rowMin_at (x : IVec ⟨2, ![R, n]⟩ 32) (h : Shape.Reduces ⟨2, ![R, n]⟩ [1] ⟨1, ![R]⟩) (hacc)
    (hc : (⟨1, ![R]⟩ : Shape).ShapeCasts ⟨2, ![R, 1]⟩) (r : Fin R) (u : Fin 1) (j : Fin n)
    (hj : ∀ i, (x (ix2 r j)).toInt ≤ (x (ix2 r i)).toInt) :
    shapeCast ⟨2, ![R, 1]⟩ (multiReductionI .minsi [1] ⟨1, ![R]⟩ x 2147483647#32 h hacc) hc (ix2 r u) = x (ix2 r j) := by
  rw [shapeCast_a_a1_apply, multiReductionI_eq_fold, h.fold_filter_drop_single]
  have e : (fun i : Fin n => x (h.lift (ix1 r) i)) = fun i => x (ix2 r i) := funext fun i => by rw [lift_row]
  have e' := fold_minsi_at (fun i => x (ix2 r i)) j hj
  rw [← e] at e'
  exact e'

/-- Equality as a test on extended reals. -/
theorem oeq_at {s : Shape} (a b : FVec Ideal s .f32) (i : s.Idx) : cmpf .oeq a b i = BitVec.ofBool (decide (a i = b i)) := rfl

theorem select_true {α : Type} {c : BitVec 1} (a b : α) (h : c = 1#1) : Scalar.select c a b = a := by rw [h]; rfl
theorem select_false {α : Type} {c : BitVec 1} (a b : α) (h : ¬ c = 1#1) : Scalar.select c a b = b := by
  rw [eq_zero_of_ne_one h]; rfl
theorem ofBool_one {p : Prop} [Decidable p] : BitVec.ofBool (decide p) = 1#1 ↔ p := by
  by_cases h : p <;> simp [h]

/-- The least word among the places of a row that hold its greatest value. -/
theorem rowPick_at (x m : FVec Ideal ⟨2, ![R, n]⟩ .f32) (c d : IVec ⟨2, ![R, n]⟩ 32) (h : Shape.Reduces ⟨2, ![R, n]⟩ [1] ⟨1, ![R]⟩) (hacc)
    (hc : (⟨1, ![R]⟩ : Shape).ShapeCasts ⟨2, ![R, 1]⟩) (r : Fin R) (u : Fin 1) (j : Fin n)
    (hm : ∀ i, m (ix2 r i) = x (ix2 r j))
    (hj : ∀ i, x (ix2 r i) = x (ix2 r j) → (c (ix2 r j)).toInt ≤ (c (ix2 r i)).toInt)
    (hd : ∀ i, (c (ix2 r j)).toInt ≤ (d (ix2 r i)).toInt) :
    shapeCast ⟨2, ![R, 1]⟩ (multiReductionI .minsi [1] ⟨1, ![R]⟩ (select (cmpf .oeq x m) c d) 2147483647#32 h hacc) hc (ix2 r u)
      = c (ix2 r j) := by
  have hat : ∀ i, x (ix2 r i) = x (ix2 r j) → select (cmpf .oeq x m) c d (ix2 r i) = c (ix2 r i) := fun i hi =>
    select_true _ _ (by rw [oeq_at, ofBool_one, hm i, hi])
  have hoff : ∀ i, x (ix2 r i) ≠ x (ix2 r j) → select (cmpf .oeq x m) c d (ix2 r i) = d (ix2 r i) := fun i hi =>
    select_false _ _ (by rw [oeq_at, ofBool_one, hm i]; exact hi)
  rw [rowMin_at _ h hacc hc r u j, hat j rfl]
  intro i
  rw [hat j rfl]
  by_cases hi : x (ix2 r i) = x (ix2 r j)
  · rw [hat i hi]
    exact hj i hi
  · rw [hoff i hi]
    exact hd i

end Cert.Proof.Knn

end
-- ==== Proof.Slow.lean ====
module

public import proofs.«01_k».proof.Proof.Values
public import proofs.«01_k».proof.Proof.TopSpec
public import proofs.«01_k».proof.Proof.RowMax

/-!
The slow way over the extended reals: its ten steps take each row's first ten columns in order.
-/

@[expose] public section

set_option maxRecDepth 16384

noncomputable section

namespace Cert.Proof.Knn

open Cert.KernelIdeal Cert.KernelIdeal.Facts₀ Cert.KernelIdeal.Facts
open Idealize.ShloMosaic Idealize.ShloMosaic.ValueIdx

theorem cmpi_eq_one {a b : BitVec 32} : IntOp.cmpi .eq a b = 1#1 ↔ a = b := by
  by_cases h : a = b
  · simp [IntOp.cmpi, h]
  · have h' : (a == b) = false := by simp [h]
    simp [IntOp.cmpi, h, h']

theorem word_inj {a b : ℕ} (ha : a < 8200) (hb : b < 8200) (h : BitVec.ofNat 32 a = BitVec.ofNat 32 b) : a = b := by
  have := congrArg BitVec.toNat h
  rw [BitVec.toNat_ofNat, BitVec.toNat_ofNat, Nat.mod_eq_of_lt (by omega), Nat.mod_eq_of_lt (by omega)] at this
  exact this

theorem word_toInt {a : ℕ} (ha : a < 8200) : (BitVec.ofNat 32 a).toInt = a := by
  rw [BitVec.toInt_eq_toNat_of_lt] <;> rw [BitVec.toNat_ofNat, Nat.mod_eq_of_lt (by omega)]
  omega

theorem negInf_scalar : (Scalar.ofBits .f32 0xFF800000#32 : Ideal .f32) = ⊥ := negInf_word

theorem lanes_at {R n : ℕ} (h) (r : Fin R) (k : Fin n) :
    iota .tc (⟨2, ![R, n]⟩ : Shape) 32 [1] h (ix2 r k) = BitVec.ofNat 32 k.val := by
  show BitVec.ofNat 32 (0 * n + k.val) = _
  rw [Nat.zero_mul, Nat.zero_add]

theorem iv_eq (n : ℕ) : Scf.iv 0#32 1#32 n = BitVec.ofNat 32 n := by
  unfold Scf.iv
  simp

theorem choose_at {S : Shape} {α : Type} (A B : IVec S 32) (v : α) (x : S.Idx → α) (j : S.Idx) :
    select (cmpi .eq A B) (broadcast S v) x j = Scalar.select (IntOp.cmpi .eq (A j) (B j)) v (x j) := rfl

/-- One step's mask, read at an entry. -/
theorem slowStep_mask (j : BitVec 32) (a : Slow Ideal) (r : Fin 32) (k : Fin 8192) :
    (slowStep j a).1 (ix2 r k)
      = Scalar.select (IntOp.cmpi .eq (BitVec.ofNat 32 k.val) (slowIdx a.1 (ix2 r 0))) (Scalar.ofBits .f32 0xFF800000#32 : Ideal .f32) (a.1 (ix2 r k)) := by
  have e := choose_at (S := S32x8192) (α := Ideal .f32) (iota .tc S32x8192 32 [1] iota_S32x8192_d1_w32)
    (broadcastTo S32x8192 (slowIdx a.1) broadcasts_S32x1_S32x8192) (Scalar.ofBits .f32 0xFF800000#32) a.1 (ix2 r k)
  have e1 := lanes_at (R := 32) iota_S32x8192_d1_w32 r k
  have e2 := spread_at (slowIdx a.1) broadcasts_S32x1_S32x8192 r k
  unfold slowStep
  dsimp only
  rw [e1, e2] at e
  exact e

/-- One step's values, read at an entry. -/
theorem slowStep_vals (j : BitVec 32) (a : Slow Ideal) (r : Fin 32) (p : Fin 10) :
    (slowStep j a).2.1 (ix2 r p)
      = Scalar.select (IntOp.cmpi .eq (BitVec.ofNat 32 p.val) j) (slowMax a.1 (ix2 r 0)) (a.2.1 (ix2 r p)) := by
  rw [← lanes_at (R := 32) iota_S32x10_d1_w32 r p, ← spread_at (slowMax a.1) broadcasts_S32x1_S32x10 r p]
  unfold slowStep
  rw [shapeCast_self, shapeCast_self]
  rfl

/-- One step's columns, read at an entry. -/
theorem slowStep_cols (j : BitVec 32) (a : Slow Ideal) (r : Fin 32) (p : Fin 10) :
    (slowStep j a).2.2 (ix2 r p)
      = Scalar.select (IntOp.cmpi .eq (BitVec.ofNat 32 p.val) j) (slowIdx a.1 (ix2 r 0)) (a.2.2 (ix2 r p)) := by
  rw [← lanes_at (R := 32) iota_S32x10_d1_w32 r p, ← spread_at (slowIdx a.1) broadcasts_S32x1_S32x10 r p]
  unfold slowStep
  rw [shapeCast_self, shapeCast_self]
  rfl

/-- Row `r` of a block of rows. -/
def rowOf (w : Vec Ideal S32x8192 .f32) (r : Fin 32) : Fin 8192 → EReal := fun k => w (ix2 r k)

/-- The row block with the columns taken in the first `n` places masked. -/
def Masked (w s : Vec Ideal S32x8192 .f32) (n : ℕ) : Prop :=
  ∀ r k, ((∃ q < n, top (rowOf w r) q = k) → s (ix2 r k) = ⊥) ∧ ((∀ q < n, top (rowOf w r) q ≠ k) → s (ix2 r k) = w (ix2 r k))

variable {w s : Vec Ideal S32x8192 .f32} (hw : ∀ r k, w (ix2 r k) ≠ ⊥)
include hw

theorem masked_top {n : ℕ} (hn : n < 8192) (h : Masked w s n) (r : Fin 32) :
    s (ix2 r (top (rowOf w r) n)) = w (ix2 r (top (rowOf w r) n)) := (h r _).2 (top_new _ hn)

theorem masked_le {n : ℕ} (hn : n < 8192) (h : Masked w s n) (r : Fin 32) (k : Fin 8192) :
    s (ix2 r k) ≤ s (ix2 r (top (rowOf w r) n)) := by
  by_cases hk : ∃ q < n, top (rowOf w r) q = k
  · rw [(h r k).1 hk]
    exact bot_le
  · push Not at hk
    rw [(h r k).2 hk, masked_top hw hn h r]
    exact Beats.le (top_best (rowOf w r) k hk)

theorem masked_eq {n : ℕ} (hn : n < 8192) (h : Masked w s n) (r : Fin 32) (k : Fin 8192)
    (he : s (ix2 r k) = s (ix2 r (top (rowOf w r) n))) : top (rowOf w r) n ≤ k := by
  rw [masked_top hw hn h r] at he
  by_cases hk : ∃ q < n, top (rowOf w r) q = k
  · rw [(h r k).1 hk] at he
    exact absurd he.symm (hw _ _)
  · push Not at hk
    rw [(h r k).2 hk] at he
    exact Beats.pos_le (top_best (rowOf w r) k hk) he

theorem slowMax_at {n : ℕ} (hn : n < 8192) (h : Masked w s n) (r : Fin 32) (u : Fin 1) :
    slowMax (F := Ideal) s (ix2 r u) = w (ix2 r (top (rowOf w r) n)) :=
  (rowMax_at s reduces_S32x8192_S32 (.inl rfl) rfl shapeCasts_S32_S32x1 r u _ (masked_le hw hn h r)).trans (masked_top hw hn h r)

theorem slowIdx_at {n : ℕ} (hn : n < 8192) (h : Masked w s n) (r : Fin 32) (u : Fin 1) :
    slowIdx (F := Ideal) s (ix2 r u) = BitVec.ofNat 32 (top (rowOf w r) n).val := by
  have hi := fun k : Fin 8192 => lanes_at (R := 32) iota_S32x8192_d1_w32 r k
  refine (rowPick_at s _ (iota .tc S32x8192 32 [1] iota_S32x8192_d1_w32) (broadcast S32x8192 8192#32) reduces_S32x8192_S32 rfl shapeCasts_S32_S32x1 r u
    (top (rowOf w r) n) ?_ ?_ ?_).trans (hi _)
  · intro i
    rw [masked_top hw hn h r]
    exact (spread_at _ broadcasts_S32x1_S32x8192 r i).trans (slowMax_at hw hn h r 0)
  · intro i he
    have := masked_eq hw hn h r i he
    have h1 := i.isLt
    have h2 := (top (rowOf w r) n).isLt
    rw [hi, hi, word_toInt (by omega), word_toInt (by omega)]
    exact_mod_cast this
  · intro i
    have h2 := (top (rowOf w r) n).isLt
    rw [hi, word_toInt (by omega)]
    show _ ≤ (BitVec.ofNat 32 8192).toInt
    rw [word_toInt (by omega)]
    omega

/-- The slow way's state after `n` steps. -/
theorem slowRun_at (n : ℕ) (hn : n ≤ 10) :
    Masked w (slowRun w n).1 n ∧ ∀ (r : Fin 32) (p : Fin 10), p.val < n →
      (slowRun w n).2.1 (ix2 r p) = w (ix2 r (top (rowOf w r) p.val))
      ∧ (slowRun w n).2.2 (ix2 r p) = BitVec.ofNat 32 (top (rowOf w r) p.val).val := by
  induction n with
  | zero =>
    rw [slowRun_zero]
    refine ⟨fun r k => ⟨fun ⟨q, hq, _⟩ => absurd hq (Nat.not_lt_zero q), fun _ => ?_⟩, fun r p hp => absurd hp (Nat.not_lt_zero _)⟩
    unfold slowInit
    rfl
  | succ n ih =>
    obtain ⟨hm, hv⟩ := ih (by omega)
    rw [slowRun_succ, iv_eq]
    generalize slowRun w n = a at hm hv
    have hmax := slowMax_at hw (by omega) hm
    have hidx := slowIdx_at hw (by omega) hm
    refine ⟨fun r k => ?_, fun r p hp => ?_⟩
    · rw [slowStep_mask, hidx]
      have h1 := k.isLt
      have h2 := (top (rowOf w r) n).isLt
      by_cases hk : top (rowOf w r) n = k
      · refine ⟨fun _ => ?_, fun h => absurd hk (h n (Nat.lt_succ_self n))⟩
        rw [select_true _ _ (cmpi_eq_one.2 (by rw [hk]))]
        exact negInf_scalar
      · rw [select_false _ _ fun h => hk (Fin.ext (word_inj (by omega) (by omega) (cmpi_eq_one.1 h))).symm]
        refine ⟨?_, ?_⟩
        · rintro ⟨q, hq, h⟩
          refine (hm r k).1 ⟨q, ?_, h⟩
          rcases Nat.lt_succ_iff_lt_or_eq.1 hq with h' | rfl
          · exact h'
          · exact absurd h hk
        · intro h
          exact (hm r k).2 fun q hq => h q (by omega)
    · rw [slowStep_vals, slowStep_cols, hidx, hmax]
      have h1 := p.isLt
      by_cases hk : p.val = n
      · rw [select_true _ _ (cmpi_eq_one.2 (by rw [hk])), select_true _ _ (cmpi_eq_one.2 (by rw [hk])), hk]
        exact ⟨rfl, rfl⟩
      · have hn' : ¬ IntOp.cmpi .eq (BitVec.ofNat 32 p.val) (BitVec.ofNat 32 n) = 1#1 := fun h =>
          hk (word_inj (by omega) (by omega) (cmpi_eq_one.1 h))
        rw [select_false _ _ hn', select_false _ _ hn']
        exact hv r p (by omega)

end Cert.Proof.Knn

end
-- ==== Proof.Registers.lean ====
module

public import proofs.«01_k».proof.Proof.Values
public import proofs.«01_k».proof.Proof.Lane
public import proofs.«01_k».proof.Proof.RowMax
public import proofs.«01_k».proof.Proof.Slow

/-!
The lists a trip keeps over the extended reals: at each row and lane, the first three chunks of that lane's order.
-/

@[expose] public section

set_option maxRecDepth 16384

noncomputable section

namespace Cert.Proof.Knn

open Cert.KernelIdeal Cert.KernelIdeal.Facts₀ Cert.KernelIdeal.Facts
open Idealize.ShloMosaic Idealize.ShloMosaic.ValueIdx

/-- The lists at one row and lane. -/
def atPlace (l : Lists Ideal) (x : S32x128.Idx) : Regs := ⟨l.t1 x, l.t2 x, l.t3 x, l.i1 x, l.i2 x, l.i3 x⟩

open Classical in
theorem pick_gt {α : Type} (a b : FVec Ideal S32x128 .f32) (x : S32x128.Idx) (u v : α) :
    Scalar.select (cmpf .ogt a b x) u v = if b x < a x then u else v := by
  have e : cmpf .ogt a b x = BitVec.ofBool (decide (b x < a x)) := rfl
  by_cases h : b x < a x
  · rw [if_pos h, select_true _ _ (by rw [e, ofBool_one]; exact h)]
  · rw [if_neg h, select_false _ _ (by rw [e, ofBool_one]; exact h)]

theorem atPlace_insert (c : ℕ) (v : FVec Ideal S32x128 .f32) (s : Lists Ideal) (x : S32x128.Idx) :
    atPlace (insertChunk c v s) x = (atPlace s x).insert (v x) (BitVec.ofNat 32 c) := by
  unfold atPlace insertChunk Regs.insert
  simp only [select_apply, pick_gt]
  rfl

variable (s : Vec Ideal S256x8192 .f32) (t : Fin k0_t1_loop.trips)

/-- A chunk's entry is the row's. -/
theorem chunk_at (c : ℕ) (hc : c < 64) (r : Fin 32) (l : Fin 128) :
    chunk s t c hc (ix2 r l) = laneVal (rowOf (rows s t) r) l.val c := by
  have hl := l.isLt
  unfold chunk laneVal rowOf rows
  congr 1
  funext a
  apply Fin.ext
  refine (Rect.idx_unit_val _ _ _ _ a).trans (Eq.trans ?_ (Rect.idx_unit_val _ _ _ _ a).symm)
  have e1 := congrFun (rowsOff_eq t)
  have e2 := rowWord_eq t
  match a with
  | ⟨0, _⟩ => exact congrArg (· + r.val) (e2.trans (e1 0).symm)
  | ⟨1, _⟩ =>
    refine Eq.trans ?_ (congrArg (· + (colAt c l.val).val) (e1 1).symm)
    show 128 * c + l.val = 0 + (colAt c l.val).val
    rw [colAt_val hc hl, Nat.zero_add]

theorem atPlace_first (v : FVec Ideal S32x128 .f32) (x : S32x128.Idx) (a : ℕ → EReal) (hv : v x = a 0) :
    atPlace (firstLists v) x = regsOf a (seen a 1) := by
  have e : regsOf a (seen a 1) = ⟨a 0, ⊥, ⊥, 0#32, 0#32, 0#32⟩ := rfl
  rw [e, ← hv, ← negInf_word]
  rfl

theorem atPlace_lists (r : Fin 32) (l : Fin 128) (hs : ∀ k, rowOf (rows s t) r k ≠ ⊥) (n : ℕ) : ∀ (c : ℕ) (hc : c + n ≤ 64) (L : Lists Ideal),
    atPlace L (ix2 r l) = regsOf (laneVal (rowOf (rows s t) r) l.val) (seen (laneVal (rowOf (rows s t) r) l.val) c) →
    atPlace (listsFrom s t n c hc L) (ix2 r l)
      = regsOf (laneVal (rowOf (rows s t) r) l.val) (seen (laneVal (rowOf (rows s t) r) l.val) (c + n)) := by
  induction n with
  | zero =>
    intro c hc L h
    unfold listsFrom
    exact h
  | succ n ih =>
    intro c hc L h
    unfold listsFrom
    rw [ih (c + 1) (by omega) _ (by
      rw [atPlace_insert, h, chunk_at, seen, regsOf_put _ _ _ (pairwise_seen _ _) (hs _)])]
    rw [Nat.add_assoc, Nat.add_comm 1 n]

/-- The value at place `i` of a lane's first three, nothing beyond. -/
def valAt (w : Fin 8192 → EReal) (l i : ℕ) : EReal := if i < 3 then w (laneCol w l i) else ⊥
/-- The chunk at place `i` of a lane's first three, the third's beyond. -/
def wordAt (w : Fin 8192 → EReal) (l i : ℕ) : BitVec 32 := BitVec.ofNat 32 (lane w l (min i 2))

theorem atPlace_heads (r : Fin 32) (l : Fin 128) (hs : ∀ k, rowOf (rows s t) r k ≠ ⊥) :
    atPlace (heads s t).l (ix2 r l) = ⟨valAt (rowOf (rows s t) r) l.val 0, valAt (rowOf (rows s t) r) l.val 1, valAt (rowOf (rows s t) r) l.val 2,
      wordAt (rowOf (rows s t) r) l.val 0, wordAt (rowOf (rows s t) r) l.val 1, wordAt (rowOf (rows s t) r) l.val 2⟩ := by
  unfold heads
  dsimp only
  rw [atPlace_lists s t r l hs 63 1 (by omega) _ (atPlace_first _ _ _ (chunk_at s t 0 (by omega) r l))]
  unfold regsOf
  rw [show 1 + 63 = 64 from rfl, lane_get _ _ (by omega), lane_get _ _ (by omega), lane_get _ _ (by omega)]
  rfl

end Cert.Proof.Knn

end
-- ==== Proof.Fast.lean ====
module

public import proofs.«01_k».proof.Proof.Registers

/-!
The fast way over the extended reals: as long as no lane has been taken three times, each step takes the row's next
column in order, and when the last step leaves no lane taken three times, all ten were taken so.
-/

@[expose] public section

set_option maxRecDepth 16384

noncomputable section

namespace Cert.Proof.Knn

open Cert.KernelIdeal Cert.KernelIdeal.Facts₀ Cert.KernelIdeal.Facts
open Idealize.ShloMosaic Idealize.ShloMosaic.ValueIdx

/-- The lists of a row after its first `p` columns are taken. -/
def After (w : Fin 8192 → EReal) (g : Heads Ideal) (r : Fin 32) (p : ℕ) : Prop := ∀ l : Fin 128,
  atPlace g.l (ix2 r l) = ⟨valAt w l.val (cnt w l.val p), valAt w l.val (cnt w l.val p + 1), valAt w l.val (cnt w l.val p + 2),
    wordAt w l.val (cnt w l.val p), wordAt w l.val (cnt w l.val p + 1), wordAt w l.val 2⟩
  ∧ g.pops (ix2 r l) = BitVec.ofNat 32 (cnt w l.val p)

theorem both_one (a b : BitVec 1) : IntOp.andi a b = 1#1 ↔ a = 1#1 ∧ b = 1#1 := by
  revert a b
  decide

/-- The lane that the next column lies in. -/
def nextLane (w : Fin 8192 → EReal) (p : ℕ) : Fin 128 := ⟨(top w p).val % 128, Nat.mod_lt _ (by decide)⟩

section Step

variable {w : Fin 8192 → EReal} {g : Heads Ideal} {r : Fin 32} {p : ℕ} (hI : After w g r p) (hp : p < 8192)
  (hk : ∀ l < 128, cnt w l p ≤ 2)
include hI hp hk

/-- The head of a lane, the next of its order. -/
theorem head_at (l : Fin 128) : g.l.t1 (ix2 r l) = w (laneCol w l.val (cnt w l.val p)) := by
  have h := congrArg Regs.t1 (hI l).1
  have hl := hk l.val l.isLt
  dsimp only [atPlace, valAt] at h
  rw [h, if_pos (by omega)]

theorem headCol_at (l : Fin 128) : headCol g (ix2 r l) = BitVec.ofNat 32 (laneCol w l.val (cnt w l.val p)).val := by
  have h := congrArg Regs.i1 (hI l).1
  have hl := hk l.val l.isLt
  dsimp only [atPlace, wordAt] at h
  rw [Nat.min_eq_left hl] at h
  rw [laneCol_val w l.isLt (by omega), Nat.mul_comm, BitVec.ofNat_add, BitVec.ofNat_mul, ← h,
    ← lanes_at (R := 32) iota_S32x128_d1_w32 r l]
  rfl

theorem head_le (l : Fin 128) : w (laneCol w l.val (cnt w l.val p)) ≤ w (top w p) :=
  Beats.le (top_best w _ (laneCol_new w hp.le l.isLt (by have := hk l.val l.isLt; omega)))

theorem head_next : w (laneCol w (nextLane w p).val (cnt w (nextLane w p).val p)) = w (top w p) :=
  congrArg w (top_eq_laneCol w hp).symm

theorem headMax_at (u : Fin 1) : headMax g (ix2 r u) = w (top w p) := by
  unfold headMax
  rw [← head_next hI hp hk, ← head_at hI hp hk]
  refine rowMax_at _ _ _ _ _ r u (nextLane w p) fun i => ?_
  rw [head_at hI hp hk, head_at hI hp hk, head_next hI hp hk]
  exact head_le hI hp hk i

theorem headIdx_at (u : Fin 1) : headIdx g (ix2 r u) = BitVec.ofNat 32 (top w p).val := by
  have e : (laneCol w (nextLane w p).val (cnt w (nextLane w p).val p)) = top w p := (top_eq_laneCol w hp).symm
  have ht := (top w p).isLt
  unfold headIdx headHit
  rw [← e, ← headCol_at hI hp hk (nextLane w p)]
  refine rowPick_at _ _ _ _ _ _ _ r u (nextLane w p) (fun i => ?_) (fun i hi => ?_) fun i => ?_
  · rw [spread_at, headMax_at hI hp hk, head_at hI hp hk, e]
  · rw [head_at hI hp hk, head_at hI hp hk, e] at hi
    rw [headCol_at hI hp hk, headCol_at hI hp hk, e, word_toInt (by omega),
      word_toInt (by have := (laneCol w i.val (cnt w i.val p)).isLt; omega)]
    have := Beats.pos_le (top_best w _ (laneCol_new w hp.le i.isLt (by have := hk i.val i.isLt; omega))) hi
    exact Int.ofNat_le.2 this
  · rw [headCol_at hI hp hk, e, word_toInt (by omega)]
    show ((top w p).val : ℤ) ≤ (BitVec.ofNat 32 8192).toInt
    rw [word_toInt (by omega)]
    omega

theorem headHot_at (l : Fin 128) : headHot g (ix2 r l) = 1#1 ↔ (top w p).val % 128 = l.val := by
  have e : headHot g (ix2 r l) = IntOp.andi (headHit g (ix2 r l)) (IntOp.cmpi .eq (headCol g (ix2 r l)) (broadcastTo S32x128 (headIdx g) broadcasts_S32x1_S32x128 (ix2 r l))) := rfl
  have e1 : headHit g (ix2 r l) = 1#1 ↔ w (laneCol w l.val (cnt w l.val p)) = w (top w p) := by
    unfold headHit
    rw [oeq_at, ofBool_one, spread_at, headMax_at hI hp hk, head_at hI hp hk]
  have e2 : IntOp.cmpi .eq (headCol g (ix2 r l)) (broadcastTo S32x128 (headIdx g) broadcasts_S32x1_S32x128 (ix2 r l)) = 1#1
      ↔ laneCol w l.val (cnt w l.val p) = top w p := by
    have h1 := (laneCol w l.val (cnt w l.val p)).isLt
    have h2 := (top w p).isLt
    rw [cmpi_eq_one, spread_at, headIdx_at hI hp hk, headCol_at hI hp hk]
    exact ⟨fun h => Fin.ext (word_inj (by omega) (by omega) h), fun h => by rw [h]⟩
  have e3 : laneCol w l.val (cnt w l.val p) = top w p ↔ (top w p).val % 128 = l.val := by
    constructor
    · intro h
      have hl := l.isLt
      rw [← h, laneCol_val w hl (by have := hk l.val hl; omega)]
      omega
    · intro h
      have := top_eq_laneCol w hp
      rw [h] at this
      exact this.symm
  rw [e, both_one, e1, e2, ← e3]
  exact ⟨fun h => h.2, fun h => ⟨congrArg w h, h⟩⟩

theorem after_pop : After w (pop g) r (p + 1) := by
  intro l
  have hh := headHot_at hI hp hk l
  have hs := (hI l).1
  have hc := (hI l).2
  have hl := hk l.val l.isLt
  have ep : (pop g).pops (ix2 r l) = g.pops (ix2 r l) + (headHot g (ix2 r l)).setWidth 32 := rfl
  have el : atPlace (pop g).l (ix2 r l) = ⟨Scalar.select (headHot g (ix2 r l)) (atPlace g.l (ix2 r l)).t2 (atPlace g.l (ix2 r l)).t1,
    Scalar.select (headHot g (ix2 r l)) (atPlace g.l (ix2 r l)).t3 (atPlace g.l (ix2 r l)).t2,
    Scalar.select (headHot g (ix2 r l)) (Ideal.ofBits .f32 0xFF800000#32) (atPlace g.l (ix2 r l)).t3,
    Scalar.select (headHot g (ix2 r l)) (atPlace g.l (ix2 r l)).i2 (atPlace g.l (ix2 r l)).i1,
    Scalar.select (headHot g (ix2 r l)) (atPlace g.l (ix2 r l)).i3 (atPlace g.l (ix2 r l)).i2, (atPlace g.l (ix2 r l)).i3⟩ := rfl
  have en : cnt w l.val (p + 1) = cnt w l.val p + if (top w p).val % 128 = l.val then 1 else 0 := rfl
  rw [el, ep, hs, hc, negInf_word, en]
  by_cases h : (top w p).val % 128 = l.val
  · have h1 := hh.2 h
    rw [if_pos h, h1]
    refine ⟨?_, ?_⟩
    · have b1 : valAt w l.val (cnt w l.val p + 1 + 2) = ⊥ := if_neg (by omega)
      have b2 : wordAt w l.val (cnt w l.val p + 1 + 1) = wordAt w l.val 2 := by
        unfold wordAt
        rw [Nat.min_eq_right (by omega), Nat.min_self]
      rw [b1, b2]
      rfl
    · rw [BitVec.ofNat_add]
      rfl
  · have h1 : headHot g (ix2 r l) = 0#1 := eq_zero_of_ne_one fun e => h (hh.1 e)
    rw [if_neg h, h1]
    refine ⟨rfl, ?_⟩
    show _ + 0#32 = _
    rw [BitVec.add_zero]
    rfl

end Step

/-- Each step raises a lane's count by at most one. -/
theorem pops_step (g : Heads Ideal) (x : S32x128.Idx) (h : (g.pops x).toNat < 100) :
    (g.pops x).toNat ≤ ((pop g).pops x).toNat ∧ ((pop g).pops x).toNat ≤ (g.pops x).toNat + 1 := by
  have ep : (pop g).pops x = g.pops x + (headHot g x).setWidth 32 := rfl
  have hb := (headHot g x).isLt
  rw [ep, BitVec.toNat_add, BitVec.toNat_setWidth, Nat.mod_eq_of_lt (b := 2 ^ 32) (by omega), Nat.mod_eq_of_lt (by omega)]
  omega

theorem pops_le (h : Heads Ideal) (x : S32x128.Idx) (h0 : h.pops x = 0#32) : ∀ n ≤ 10, ((popN h n).pops x).toNat ≤ n
  | 0, _ => by show (h.pops x).toNat ≤ 0; rw [h0]; rfl
  | n + 1, hn => by
    have ih := pops_le h x h0 n (by omega)
    have := (pops_step (popN h n) x (by omega)).2
    show ((pop (popN h n)).pops x).toNat ≤ n + 1
    omega

theorem pops_mono (h : Heads Ideal) (x : S32x128.Idx) (h0 : h.pops x = 0#32) (n : ℕ) (hn : n ≤ 10) :
    ((popN h n).pops x).toNat ≤ ((popN h 10).pops x).toNat := by
  obtain ⟨d, rfl⟩ : ∃ d, n = 10 - d := ⟨10 - n, by omega⟩
  induction d with
  | zero => exact le_rfl
  | succ d ih =>
    by_cases hd : d < 10
    · have h1 := (pops_step (popN h (10 - (d + 1))) x (by have := pops_le h x h0 (10 - (d + 1)) hn; omega)).1
      have h2 := ih (by omega)
      rw [show 10 - d = (10 - (d + 1)) + 1 by omega] at h2
      exact h1.trans h2
    · rw [show 10 - (d + 1) = 10 - d by omega]
      exact ih (by omega)

/-- The greatest count is at least each. -/
theorem maxAll_ge (x : IVec S1x32x128 32) (h : Shape.Reduces S1x32x128 [1, 2] S1) (hacc) (i : S1x32x128.Idx) (j : S1.Idx) :
    (x i).toInt ≤ (multiReductionI .maxsi [1, 2] S1 x 2147483648#32 h hacc j).toInt := by
  rw [multiReductionI_eq_fold]
  have hf := Finset.fold_hom (op := IKind.maxsi.op) (op' := max) (s := Finset.univ.filter fun i => h.drop i = j) (b := 2147483648#32)
    (f := x) (m := BitVec.toInt) toInt_maxsi
  rw [← hf, Finset.le_fold_max]
  refine Or.inr ⟨i, Finset.mem_filter.2 ⟨Finset.mem_univ _, ?_⟩, le_rfl⟩
  funext a
  match a with
  | ⟨0, _⟩ => exact Subsingleton.elim (α := Fin 1) _ _

theorem some_three (M : BitVec 32) (h : 3 ≤ M.toInt) : Scalar.cmpi .ne (Scalar.extui (Scalar.cmpi .sge M 3#32)) 0#32 = 1#1 := by
  have h4 : (3#32 : BitVec 32).sle M = true := by
    rw [BitVec.sle_iff_toInt_le]
    exact h
  have h5 : Scalar.cmpi .sge M 3#32 = 1#1 := by
    show BitVec.ofBool ((3#32 : BitVec 32).sle M) = 1#1
    rw [h4]
    rfl
  rw [h5]
  rfl

/-- A trip not exhausted has taken no lane three times. -/
theorem few_of_not_exhausted (h : Heads Ideal) (hx : ¬ exhausted h = 1#1) (h0 : ∀ x, h.pops x = 0#32) (r : Fin 32) (l : Fin 128) :
    ((popN h 10).pops (ix2 r l)).toNat ≤ 2 := by
  by_contra hc
  apply hx
  have e : shapeCast S1x32x128 (popN h 10).pops shapeCasts_S32x128_S1x32x128 (ix3 (0 : Fin 1) r l) = (popN h 10).pops (ix2 r l) :=
    shapeCast_ab_1ab_apply _ _ _ _ _
  have hn := pops_le h (ix2 r l) (h0 _) 10 le_rfl
  unfold exhausted
  refine some_three _ (le_trans ?_ (maxAll_ge _ _ rfl (ix3 (0 : Fin 1) r l) _))
  rw [e, BitVec.toInt_eq_toNat_of_lt (by omega)]
  omega

variable (w : Fin 8192 → EReal) (h : Heads Ideal) (r : Fin 32)

theorem after_all (h0 : After w h r 0) (hf : ∀ l, ((popN h 10).pops (ix2 r l)).toNat ≤ 2) (hz : ∀ x, h.pops x = 0#32) :
    ∀ p ≤ 10, After w (popN h p) r p ∧ ∀ l < 128, cnt w l p ≤ 2
  | 0, _ => ⟨h0, fun l _ => by unfold cnt; omega⟩
  | p + 1, hp => by
    have ⟨h1, h2⟩ := after_all h0 hf hz p (by omega)
    have h3 := after_pop h1 (by omega) h2
    refine ⟨h3, fun l hl => ?_⟩
    have h4 := (h3 ⟨l, hl⟩).2
    have h5 := (pops_mono h (ix2 r ⟨l, hl⟩) (hz _) (p + 1) hp).trans (hf ⟨l, hl⟩)
    have h6 : (BitVec.ofNat 32 (cnt w l (p + 1))).toNat ≤ 2 := by
      rw [← h4]
      exact h5
    have h7 : cnt w l (p + 1) ≤ 3 := by
      have := h2 l hl
      unfold cnt
      split <;> omega
    rw [BitVec.toNat_ofNat, Nat.mod_eq_of_lt (by omega)] at h6
    exact h6

theorem fastVals_at (p : Fin 10) : fastVals h (ix2 r p) = headMax (popN h p.val) (ix2 r 0) := by
  unfold fastVals
  refine concatenate_ofFn_unit_apply (s₁ := S32x1) (t := S32x10) 1 (N := 10) (fun n => headMax (popN h n.val)) _ rfl rfl (ix2 r p) p rfl (ix2 r 0) fun b hb => ?_
  match b with
  | ⟨0, _⟩ => rfl
  | ⟨1, _⟩ => exact absurd rfl hb

theorem fastIdxs_at (p : Fin 10) : fastIdxs h (ix2 r p) = headIdx (popN h p.val) (ix2 r 0) := by
  unfold fastIdxs
  refine concatenate_ofFn_unit_apply (s₁ := S32x1) (t := S32x10) 1 (N := 10) (fun n => headIdx (popN h n.val)) _ rfl rfl (ix2 r p) p rfl (ix2 r 0) fun b hb => ?_
  match b with
  | ⟨0, _⟩ => rfl
  | ⟨1, _⟩ => exact absurd rfl hb

/-- The ten values and columns found in a trip's rows: each row's first ten in order. -/
theorem found_at (s : Vec Ideal S256x8192 .f32) (t : Fin k0_t1_loop.trips) (hs : ∀ r k, rows s t (ix2 r k) ≠ ⊥) (r : Fin 32) (p : Fin 10) :
    (found s t).1 (ix2 r p) = rowOf (rows s t) r (top (rowOf (rows s t) r) p.val)
    ∧ (found s t).2 (ix2 r p) = BitVec.ofNat 32 (top (rowOf (rows s t) r) p.val).val := by
  unfold found
  by_cases hx : exhausted (heads s t) = 1#1
  · rw [if_pos hx]
    exact (slowRun_at hs 10 le_rfl).2 r p p.isLt
  · rw [if_neg hx]
    have hz : ∀ x, (heads s t).pops x = 0#32 := fun x => by
      unfold heads
      rfl
    have h0 : After (rowOf (rows s t) r) (heads s t) r 0 := fun l => ⟨atPlace_heads s t r l (hs r), hz _⟩
    have ⟨h1, h2⟩ := after_all _ _ r h0 (few_of_not_exhausted _ hx hz r) hz p.val (by omega)
    have hp : p.val < 8192 := by omega
    dsimp only
    rw [fastVals_at, fastIdxs_at]
    exact ⟨headMax_at h1 hp h2 0, headIdx_at h1 hp h2 0⟩

end Cert.Proof.Knn

end
-- ==== Proof.Unit.lean ====
module

public import Idealize.ShloMosaic.Lib.ValueIdx
public import Idealize.ShloMosaic.Lib.ValueLayout
public import Idealize.ShloMosaic.Lib.ValueLayoutCasts
public import Idealize.ShloMosaic.Lib.IdealHost
public import Idealize.ShloMosaic.PureOps.Ideal.Laws
public import proofs.«01_k».proof.Proof.RowMax

/-!
A row divided by its length, as the kernel and as the reference compute it, and the scaled product of two such rows:
always real numbers, whatever the rows hold.
-/

@[expose] public section

set_option maxRecDepth 16384

noncomputable section

namespace Cert.Proof.Knn

open Idealize.ShloMosaic Idealize.ShloMosaic.ValueIdx

/-- The least length divided by. -/
def leastLen : EReal := Ideal.ofBits .f32 0x2B8CBCCC#32
/-- What the products are divided by. -/
def scale : EReal := Ideal.ofBits .f32 0x3D4CCCCD#32

theorem leastLen_real : ∃ e : ℝ, 0 < e ∧ leastLen = e := by
  refine ⟨_, ?_, by unfold leastLen; simp [Ideal.ofBits, Ideal.ieee]; rfl⟩
  positivity

theorem scale_real : ∃ e : ℝ, 0 < e ∧ scale = e := by
  refine ⟨_, ?_, by unfold scale; simp [Ideal.ofBits, Ideal.ieee]; rfl⟩
  positivity

/-- A row's length, at least the least. -/
def len (x : Fin 64 → EReal) : EReal := max (Ideal.sqrt (∑ e, x e * x e)) leastLen

/-- An entry of a row divided by the row's length. -/
def unitRow (x : Fin 64 → EReal) (d : Fin 64) : EReal := Ideal.div (x d) (len x)

/-- The scaled product of two rows divided by their lengths. -/
def sim (x y : Fin 64 → EReal) : EReal := Ideal.div (∑ d, unitRow x d * unitRow y d) scale

theorem sq_nonneg' (a : EReal) : 0 ≤ a * a := by
  induction a with
  | bot => simp
  | top => simp
  | coe r => exact_mod_cast mul_self_nonneg r

/-- An infinite entry makes the row's length infinite. -/
theorem len_top (x : Fin 64 → EReal) (d : Fin 64) (h : x d * x d = ⊤) : len x = ⊤ := by
  have h1 : (∑ e, x e * x e) = ⊤ := by
    rw [← top_le_iff, ← h]
    exact Finset.single_le_sum (f := fun e => x e * x e) (fun e _ => sq_nonneg' _) (Finset.mem_univ d)
  unfold len
  rw [h1]
  exact top_sup_eq _

theorem unitRow_real (x : Fin 64 → EReal) (d : Fin 64) : ∃ r : ℝ, unitRow x d = r := by
  obtain ⟨e, he, hl⟩ := leastLen_real
  have hpos : 0 < len x := lt_of_lt_of_le (by rw [hl]; exact_mod_cast he) (le_max_right _ _)
  unfold unitRow Ideal.div
  rw [if_neg hpos.ne']
  by_cases ht : len x = ⊤
  · exact ⟨0, by rw [ht]; simp⟩
  · obtain ⟨L, hL⟩ : ∃ L : ℝ, len x = L := by
      induction h : len x with
      | bot => rw [h] at hpos; exact absurd hpos (by simp)
      | top => exact absurd h ht
      | coe r => exact ⟨r, rfl⟩
    obtain ⟨v, hv⟩ : ∃ v : ℝ, x d = v := by
      induction h : x d with
      | bot => exact absurd (len_top x d (by rw [h]; simp)) ht
      | top => exact absurd (len_top x d (by rw [h]; simp)) ht
      | coe r => exact ⟨r, rfl⟩
    refine ⟨v * L⁻¹, ?_⟩
    rw [hv, hL, EReal.coe_mul, EReal.coe_inv]

theorem sim_real (x y : Fin 64 → EReal) : ∃ r : ℝ, sim x y = r := by
  obtain ⟨e, he, hs⟩ := scale_real
  choose u hu using unitRow_real x
  choose v hv using unitRow_real y
  unfold sim Ideal.div
  rw [hs, if_neg (by exact_mod_cast he.ne')]
  refine ⟨(∑ d, u d * v d) * e⁻¹, ?_⟩
  simp only [hu, hv]
  rw [EReal.coe_mul, EReal.coe_inv]
  push_cast
  rfl

theorem sim_ne_bot (x y : Fin 64 → EReal) : sim x y ≠ ⊥ := by
  obtain ⟨r, h⟩ := sim_real x y
  rw [h]
  exact EReal.coe_ne_bot r

/-- A row divided by its length, as the kernel computes it. -/
theorem unit_kernel {R : ℕ} (v : FVec Ideal ⟨2, ![R, 64]⟩ .f32) (h : Shape.Reduces ⟨2, ![R, 64]⟩ [1] ⟨1, ![R]⟩) (hφ hacc)
    (hc : (⟨1, ![R]⟩ : Shape).ShapeCasts ⟨2, ![R, 1]⟩) (hb : (⟨2, ![R, 1]⟩ : Shape).Broadcasts ⟨2, ![R, 64]⟩) (r : Fin R) (d : Fin 64) :
    divf v (broadcastTo ⟨2, ![R, 64]⟩ (maximumf (sqrt (shapeCast ⟨2, ![R, 1]⟩ (multiReduction .add [1] ⟨1, ![R]⟩ (mulf v v) 0x00000000#32 h hφ hacc) hc))
      (broadcast ⟨2, ![R, 1]⟩ (Scalar.ofBits .f32 0x2B8CBCCC#32 : Ideal .f32))) hb) (ix2 r d) = unitRow (fun e => v (ix2 r e)) d := by
  refine congrArg (Ideal.div (v (ix2 r d))) ?_
  rw [spread_at]
  refine congrArg (fun z => max (Ideal.sqrt z) leastLen) ?_
  rw [shapeCast_a_a1_apply, Ideal.multiReduction_add_single]
  refine Finset.sum_congr rfl fun e _ => ?_
  exact congrArg (fun i => v i * v i) (lift_row h r e)

/-- A row divided by its length, as the reference computes it. -/
theorem unit_host {B R : ℕ} (x : FVec Ideal ⟨3, ![B, R, 64]⟩ .f32) (h1 : (⟨3, ![B, R, 1]⟩ : Shape).BroadcastsInDim ⟨3, ![B, R, 64]⟩ ![0, 1, 2])
    (h2 : (⟨2, ![B, R]⟩ : Shape).BroadcastsInDim ⟨3, ![B, R, 1]⟩ ![0, 1]) (h3 : Shape.ReducesTo ⟨3, ![B, R, 64]⟩ [2] ⟨2, ![B, R]⟩) (h4)
    (h5 : (⟨0, ![]⟩ : Shape).BroadcastsInDim ⟨3, ![B, R, 1]⟩ ![]) (h6 : Shape.Reduces ⟨3, ![B, R, 64]⟩ [2] ⟨2, ![B, R]⟩)
    (hB : B ≠ 1) (hR : R ≠ 1) (b : Fin B) (r : Fin R) (d : Fin 64) :
    Host.divf x (broadcastInDim ⟨3, ![B, R, 64]⟩ ![0, 1, 2] h1 (maximumf (Host.sqrt (broadcastInDim ⟨3, ![B, R, 1]⟩ ![0, 1] h2
      (Host.reduceAdd (mulf x x) (constant ⟨0, ![]⟩ .f32 0x00000000#32) h3 h4))) (broadcastInDim ⟨3, ![B, R, 1]⟩ ![] h5 (constant ⟨0, ![]⟩ .f32 0x2B8CBCCC#32))))
      (ix3 b r d) = unitRow (fun e => x (ix3 b r e)) d := by
  refine congrArg (Ideal.div (x (ix3 b r d))) ?_
  rw [broadcastInDim_apply _ h1 _ (ix3 b r d) (ix3 b r (0 : Fin 1)) fun a => by
    match a with
    | ⟨0, _⟩ => exact (if_neg hB).symm
    | ⟨1, _⟩ => exact (if_neg hR).symm
    | ⟨2, _⟩ => rfl]
  refine congrArg₂ (fun y z => max (Ideal.sqrt y) z) ?_ ?_
  · rw [broadcastInDim_apply _ h2 _ (ix3 b r (0 : Fin 1)) (ix2 b r) fun a => by
      match a with
      | ⟨0, _⟩ => exact (if_neg hB).symm
      | ⟨1, _⟩ => exact (if_neg hR).symm]
    refine (Ideal.hostReduceAdd_single h3 h6 _ _ _).trans ?_
    have z : Ideal.ofBits .f32 0x00000000#32 = 0 := by simp [Ideal.ofBits, Ideal.ieee]
    refine Eq.trans (congrArg (· + _) z) ?_
    rw [zero_add]
    refine Finset.sum_congr rfl fun e _ => ?_
    have e' : h6.lift (ix2 b r) e = ix3 b r e := by
      funext a
      match a with
      | ⟨0, _⟩ => exact Fin.ext rfl
      | ⟨1, _⟩ => exact Fin.ext rfl
      | ⟨2, _⟩ => exact Fin.ext rfl
    rw [e']
    rfl
  · exact broadcastInDim_scalar_apply h5 _ _

end Cert.Proof.Knn

end
-- ==== Proof.Products.lean ====
module

public import proofs.«01_k».proof.Proof.Unit
public import proofs.«01_k».proof.Proof.Run
public import proofs.«01_k».proof.Proof.Gen.ReferenceIdeal.Run

/-!
The scaled products, entry by entry: what a grid point of the kernel computes, and what the reference computes.
-/

@[expose] public section

set_option maxRecDepth 16384

noncomputable section

namespace Cert.Proof.Knn

open Idealize.ShloMosaic Idealize.ShloMosaic.ValueIdx

section Kernel
open Cert.KernelIdeal Cert.KernelIdeal.Facts₀ Cert.KernelIdeal.Facts Cert.KernelIdeal.Gen

theorem keys_at (v : Vec Ideal S1x8192x64 .f32) (j : Fin 8192) (d : Fin 64) :
    k0_pay1 (F := Ideal) v (ix2 j d) = unitRow (fun e => v (ix3 (0 : Fin 1) j e)) d := by
  unfold k0_pay1
  dsimp only
  rw [shapeCast_self]
  refine (unit_kernel (R := 8192) (shapeCast S8192x64 v Facts₀.shapeCasts_S1x8192x64_S8192x64) _ _ _ _ _ j d).trans ?_
  refine congrArg (fun f => unitRow f d) (funext fun e => ?_)
  exact shapeCast_1ab_ab_apply _ _ _ _

theorem scores_at (v : Vec Ideal S1x256x64 .f32) (k : Vec Ideal S8192x64 .f32) (r : Fin 256) (j : Fin 8192) :
    k0_pay2 (F := Ideal) v k (ix2 r j) = Ideal.div (∑ d, unitRow (fun e => v (ix3 (0 : Fin 1) r e)) d * k (ix2 j d)) scale := by
  unfold k0_pay2
  dsimp only
  rw [shapeCast_self]
  refine congrArg (fun z => Ideal.div z scale) ?_
  refine (Ideal.matmul_constant_zero_apply _ _ _ _ _).trans ?_
  rw [← Equiv.sum_comp (contrEquiv1 dot_S256x64_S8192x64_S256x8192_1_1_0_0_n_n 64 rfl rfl).symm]
  refine Finset.sum_congr rfl fun d _ => ?_
  have hd := contrEquiv1_symm_val dot_S256x64_S8192x64_S256x8192_1_1_0_0_n_n 64 rfl rfl d
  refine congrArg₂ (· * ·) ?_ ?_
  · refine Eq.trans (congrArg _ (?_ : _ = ix2 r d)) ?_
    · funext a
      match a with
      | ⟨0, _⟩ => exact Fin.ext rfl
      | ⟨1, _⟩ => exact Fin.ext hd
    · refine (unit_kernel (R := 256) (shapeCast S256x64 v Facts₀.shapeCasts_S1x256x64_S256x64) _ _ _ _ _ r d).trans ?_
      refine congrArg (fun f => unitRow f d) (funext fun e => ?_)
      exact shapeCast_1ab_ab_apply _ _ _ _
  · refine congrArg k ?_
    funext a
    match a with
    | ⟨0, _⟩ => exact Fin.ext rfl
    | ⟨1, _⟩ => exact Fin.ext hd

end Kernel

section Reference
open Cert.ReferenceIdeal Cert.ReferenceIdeal.Gen

/-- The reference's scaled products of all rows. -/
def refSims (x : FVec Ideal S4x2048x64 .f32) (y : FVec Ideal S4x8192x64 .f32) : FVec Ideal S4x2048x8192 .f32 :=
  Host.divf (Host.dotGeneral dot_S4x2048x64_S4x8192x64_S4x2048x8192_2_2_1_1_0_0 none (Host.divf x (broadcastInDim S4x2048x64 ![0, 1, 2] bcast_S4x2048x1_S4x2048x64_0_1_2 (maximumf (Host.sqrt (broadcastInDim S4x2048x1 ![0, 1] bcast_S4x2048_S4x2048x1_0_1 (Host.reduceAdd (mulf x x) (constant S_ .f32 0x00000000#32) reducesTo_S4x2048x64_S4x2048_d2 h_S_))) (broadcastInDim S4x2048x1 ![] bcast_S_S4x2048x1 (constant S_ .f32 0x2B8CBCCC#32))))) (Host.divf y (broadcastInDim S4x8192x64 ![0, 1, 2] bcast_S4x8192x1_S4x8192x64_0_1_2 (maximumf (Host.sqrt (broadcastInDim S4x8192x1 ![0, 1] bcast_S4x8192_S4x8192x1_0_1 (Host.reduceAdd (mulf y y) (constant S_ .f32 0x00000000#32) reducesTo_S4x8192x64_S4x8192_d2 h_S_))) (broadcastInDim S4x8192x1 ![] bcast_S_S4x8192x1 (constant S_ .f32 0x2B8CBCCC#32)))))) (broadcastInDim S4x2048x8192 ![] bcast_S_S4x2048x8192 (constant S_ .f32 0x3D4CCCCD#32))

theorem refSims_at (x : FVec Ideal S4x2048x64 .f32) (y : FVec Ideal S4x8192x64 .f32) (b : Fin 4) (i : Fin 2048) (j : Fin 8192) :
    refSims x y (ix3 b i j) = sim (fun e => x (ix3 b i e)) (fun e => y (ix3 b j e)) := by
  unfold refSims
  refine congrArg₂ Ideal.div ?_ (broadcastInDim_scalar_apply _ _ _)
  refine (Ideal.dotGeneral_apply _ _ _ _ _ _).trans ?_
  rw [← Equiv.sum_comp (contrEquiv1 dot_S4x2048x64_S4x8192x64_S4x2048x8192_2_2_1_1_0_0 64 rfl rfl).symm]
  refine Finset.sum_congr rfl fun d _ => ?_
  have hd := contrEquiv1_symm_val dot_S4x2048x64_S4x8192x64_S4x2048x8192_2_2_1_1_0_0 64 rfl rfl d
  refine congrArg₂ (· * ·) ?_ ?_
  · refine Eq.trans (congrArg _ (?_ : _ = ix3 b i d)) (unit_host x _ _ _ _ _ (by decide) (by decide) (by decide) b i d)
    funext a
    match a with
    | ⟨0, _⟩ => exact Fin.ext rfl
    | ⟨1, _⟩ => exact Fin.ext rfl
    | ⟨2, _⟩ => exact Fin.ext hd
  · refine Eq.trans (congrArg _ (?_ : _ = ix3 b j d)) (unit_host y _ _ _ _ _ (by decide) (by decide) (by decide) b j d)
    funext a
    match a with
    | ⟨0, _⟩ => exact Fin.ext rfl
    | ⟨1, _⟩ => exact Fin.ext rfl
    | ⟨2, _⟩ => exact Fin.ext hd

end Reference

end Cert.Proof.Knn

end
-- ==== Proof.Ranks.lean ====
module

public import proofs.«01_k».proof.Proof.Products
public import proofs.«01_k».proof.Proof.TopSpec
public import Idealize.ShloMosaic.Lib.KernelVsHost

/-!
The reference's first ten of a row and the softmax over them, and the kernel's softmax, entry by entry.
-/

@[expose] public section

set_option maxRecDepth 16384

noncomputable section

namespace Cert.Proof.Knn

open Idealize.ShloMosaic Idealize.ShloMosaic.ValueIdx

/-- The softmax of ten values of which the first is the greatest. -/
def soft (v : Fin 10 → EReal) (p : Fin 10) : EReal := Ideal.div (Ideal.exp (v p - v 0)) (∑ q, Ideal.exp (v q - v 0))

section Kernel
open Cert.KernelIdeal Cert.KernelIdeal.Facts₀ Cert.KernelIdeal.Facts

theorem weights_at (tv : FVec Ideal S32x10 .f32) (r : Fin 32) (p : Fin 10) : weights tv (ix2 r p) = soft (fun q => tv (ix2 r q)) p := by
  have he : ∀ q : Fin 10, exp (subf tv (broadcastTo S32x10 (extractStridedSlice S32x1 ![0, 0] tv slices_S32x10_o0_0_S32x1) broadcasts_S32x1_S32x10)) (ix2 r q)
      = Ideal.exp (tv (ix2 r q) - tv (ix2 r 0)) := fun q => by
    refine congrArg (fun z => Ideal.exp (tv (ix2 r q) - z)) ?_
    rw [spread_at]
    refine congrArg tv (funext fun a => ?_)
    match a with
    | ⟨0, _⟩ => exact Fin.ext (Nat.zero_add _)
    | ⟨1, _⟩ => exact Fin.ext rfl
  unfold weights
  dsimp only
  refine congrArg₂ Ideal.div (he p) ?_
  rw [spread_at, shapeCast_a_a1_apply]
  refine (Ideal.multiReduction_add_single _ _ _ _ _ _).trans ?_
  exact Finset.sum_congr rfl fun q _ => (congrArg _ (lift_row _ r q)).trans (he q)

end Kernel

section Reference
open Cert.ReferenceIdeal Cert.ReferenceIdeal.Gen

/-- A row of the reference's scaled products. -/
def refRow (x : FVec Ideal S4x2048x8192 .f32) (b : Fin 4) (i : Fin 2048) : Fin 8192 → EReal := fun j => x (ix3 b i j)

theorem topK_at (x : FVec Ideal S4x2048x8192 .f32) (h : S4x2048x8192.Slices (fun _ => 0) S4x2048x10) (b : Fin 4) (i : Fin 2048) (p : Fin 10) :
    (Host.topK S4x2048x10 2 (FloatOps.cmpfTotal .gt) x h).1 (ix3 b i p) = refRow x b i (top (refRow x b i) p.val)
    ∧ (Host.topK S4x2048x10 2 (FloatOps.cmpfTotal .gt) x h).2 (ix3 b i p) = BitVec.ofNat 32 (top (refRow x b i) p.val).val := by
  have hp := p.isLt
  have hj : ∀ a, S4x2048x10.size a ≤ S4x2048x8192.size a := by decide
  have along : ∀ (q k : Fin 8192), (ix3 b i q : S4x2048x8192.Idx).along 2 k = ix3 b i k := fun q k => by
    funext a
    match a with
    | ⟨0, _⟩ => rfl
    | ⟨1, _⟩ => rfl
    | ⟨2, _⟩ => rfl
  have hq : p.val % 8192 = p.val := Nat.mod_eq_of_lt (by omega)
  have hs : sortedFrom (fun k k' : Fin 8192 => FloatOps.cmpfTotal (F := Ideal) (φ := .f32) .gt (x ((ix3 b i (⟨p.val, by omega⟩ : Fin 8192) : S4x2048x8192.Idx).along 2 k))
      (x ((ix3 b i (⟨p.val, by omega⟩ : Fin 8192) : S4x2048x8192.Idx).along 2 k')) == 1#1) ⟨p.val, by omega⟩ = top (refRow x b i) p.val := by
    rw [sortedFrom_value (refRow x b i) _ fun k k' => by
      rw [along, along, beq_iff_eq]
      exact ofBool_one]
    unfold top
    exact congrArg _ (Fin.ext hq.symm)
  have hk : ∀ a : Fin 3, (ix3 b i (⟨p.val, by omega⟩ : Fin 8192) a).val = 0 + (ix3 b i p a).val := fun a => by
    match a with
    | ⟨0, _⟩ => exact (Nat.zero_add _).symm
    | ⟨1, _⟩ => exact (Nat.zero_add _).symm
    | ⟨2, _⟩ => exact (Nat.zero_add _).symm
  unfold Host.topK Host.sort2
  dsimp only
  rw [dif_pos (show 2 < S4x2048x8192.rank by decide)]
  constructor
  · refine (extractStridedSlice_apply _ _ _ _ _ hk).trans ?_
    refine (congrArg (fun k => x ((ix3 b i (⟨p.val, by omega⟩ : Fin 8192) : S4x2048x8192.Idx).along 2 k)) hs).trans ?_
    exact congrArg x (along _ _)
  · refine (extractStridedSlice_apply _ _ _ _ _ hk).trans ?_
    dsimp only
    rw [dif_pos (show 2 < S4x2048x8192.rank by decide), iotaInDim_apply]
    refine congrArg (BitVec.ofNat 32) ?_
    refine (congrArg (fun k => ((ix3 b i (⟨p.val, by omega⟩ : Fin 8192) : S4x2048x8192.Idx).along 2 k 2).val) hs).trans ?_
    exact congrArg (fun j : S4x2048x8192.Idx => (j 2).val) (along _ _)

/-- The reference's softmax over the first ten of each row. -/
def refSoft (v : FVec Ideal S4x2048x10 .f32) : FVec Ideal S4x2048x10 .f32 :=
  Host.divf (Host.exp (subf v (broadcastInDim S4x2048x10 ![0, 1, 2] bcast_S4x2048x1_S4x2048x10_0_1_2 (broadcastInDim S4x2048x1 ![0, 1] bcast_S4x2048_S4x2048x1_0_1
      (maximumf (broadcastInDim S4x2048 ![] bcast_S_S4x2048 (constant S_ .f32 0xFF800000#32)) (Host.reduce FloatOps.maximumf v (constant S_ .f32 0xFF800000#32) reducesTo_S4x2048x10_S4x2048_d2 h_S_))))))
    (broadcastInDim S4x2048x10 ![0, 1, 2] bcast_S4x2048x1_S4x2048x10_0_1_2 (broadcastInDim S4x2048x1 ![0, 1] bcast_S4x2048_S4x2048x1_0_1
      (Host.reduceAdd (Host.exp (subf v (broadcastInDim S4x2048x10 ![0, 1, 2] bcast_S4x2048x1_S4x2048x10_0_1_2 (broadcastInDim S4x2048x1 ![0, 1] bcast_S4x2048_S4x2048x1_0_1
      (maximumf (broadcastInDim S4x2048 ![] bcast_S_S4x2048 (constant S_ .f32 0xFF800000#32)) (Host.reduce FloatOps.maximumf v (constant S_ .f32 0xFF800000#32) reducesTo_S4x2048x10_S4x2048_d2 h_S_))))))
        (constant S_ .f32 0x00000000#32) reducesTo_S4x2048x10_S4x2048_d2 h_S_)))

theorem out_at (m : (ℓ : Loc nD τ sig) → Buf (Elt Ideal) ℓ) (c : Dev nD) : Value.res_out0 (F := Ideal) m c
    = shapeCast S81920 (refSoft (Host.topK S4x2048x10 2 (FloatOps.cmpfTotal .gt) (refSims (m ((c.tc : Thread nD τ).loc main_arg0)) (m ((c.tc : Thread nD τ).loc main_arg1))) sliceFits_S4x2048x8192_S4x2048x10).1) shapeCasts_S4x2048x10_S81920 := by
  unfold Value.res_out0 Value.res_main_v44 refSoft refSims
  rfl

theorem red2 : Shape.Reduces S4x2048x10 [2] S4x2048 := by decide

theorem lift2 (b : Fin 4) (i : Fin 2048) (q : Fin 10) : red2.lift (ix2 b i) q = ix3 b i q := by
  funext a
  match a with
  | ⟨0, _⟩ => exact Fin.ext rfl
  | ⟨1, _⟩ => exact Fin.ext rfl
  | ⟨2, _⟩ => exact Fin.ext rfl

/-- A row's number spread over the row. -/
theorem spread2 (z : S4x2048.Idx → EReal) (b : Fin 4) (i : Fin 2048) (p : Fin 10) :
    broadcastInDim S4x2048x10 ![0, 1, 2] bcast_S4x2048x1_S4x2048x10_0_1_2 (broadcastInDim S4x2048x1 ![0, 1] bcast_S4x2048_S4x2048x1_0_1 z) (ix3 b i p) = z (ix2 b i) := by
  rw [broadcastInDim_apply _ _ _ (ix3 b i p) (ix3 b i (0 : Fin 1)) fun a => by
    match a with
    | ⟨0, _⟩ => rfl
    | ⟨1, _⟩ => rfl
    | ⟨2, _⟩ => rfl]
  exact broadcastInDim_apply _ _ _ _ (ix2 b i) fun a => by
    match a with
    | ⟨0, _⟩ => rfl
    | ⟨1, _⟩ => rfl

theorem rowMax2 (v : FVec Ideal S4x2048x10 .f32) (b : Fin 4) (i : Fin 2048) (hv : ∀ q, v (ix3 b i q) ≤ v (ix3 b i 0)) :
    maximumf (broadcastInDim S4x2048 ![] bcast_S_S4x2048 (constant S_ .f32 0xFF800000#32)) (Host.reduce FloatOps.maximumf v (constant S_ .f32 0xFF800000#32) reducesTo_S4x2048x10_S4x2048_d2 h_S_) (ix2 b i)
      = v (ix3 b i 0) := by
  have h0 := congrFun (hostReduce_maximumf_eq_multiReduction v 0xFF800000#32 reducesTo_S4x2048x10_S4x2048_d2 h_S_ red2 (.inl rfl) rfl) (ix2 b i)
  have h1 : multiReduction .maximumf [2] S4x2048 v 0xFF800000#32 red2 (.inl rfl) rfl (ix2 b i) = v (ix3 b i 0) := by
    refine (Ideal.multiReduction_maximumf_single _ _ _ _ _ _).trans ?_
    have e : (fun q : Fin 10 => v (red2.lift (ix2 b i) q)) = fun q => v (ix3 b i q) := funext fun q => by rw [lift2]
    have e' := fold_max_at (fun q => v (ix3 b i q)) 0 hv
    rw [← e, ← negInf_word] at e'
    exact e'
  have h2 : broadcastInDim S4x2048 ![] bcast_S_S4x2048 (constant (F := Ideal) S_ .f32 0xFF800000#32) (ix2 b i) = ⊥ :=
    (broadcastInDim_scalar_apply _ _ _).trans negInf_word
  refine (congrArg₂ max h2 (h0.trans h1)).trans ?_
  exact bot_sup_eq _

theorem refSoft_at (v : FVec Ideal S4x2048x10 .f32) (b : Fin 4) (i : Fin 2048) (p : Fin 10) (hv : ∀ q, v (ix3 b i q) ≤ v (ix3 b i 0)) :
    refSoft v (ix3 b i p) = soft (fun q => v (ix3 b i q)) p := by
  unfold refSoft
  generalize hE : Host.exp (subf v _) = E
  have he : ∀ q, E (ix3 b i q) = Ideal.exp (v (ix3 b i q) - v (ix3 b i 0)) := fun q => by
    rw [← hE]
    refine congrArg (fun z => Ideal.exp (v (ix3 b i q) - z)) ?_
    rw [spread2, rowMax2 v b i hv]
  refine congrArg₂ Ideal.div (he p) ?_
  rw [spread2]
  refine (Ideal.hostReduceAdd_single reducesTo_S4x2048x10_S4x2048_d2 red2 _ _ _).trans ?_
  have z : Ideal.ofBits .f32 0x00000000#32 = 0 := by simp [Ideal.ofBits, Ideal.ieee]
  refine Eq.trans (congrArg (· + _) z) ?_
  rw [zero_add]
  exact Finset.sum_congr rfl fun q _ => (congrArg E (lift2 b i q)).trans (he q)

end Reference

end Cert.Proof.Knn

end
-- ==== Proof.Result.lean ====
module

public import proofs.«01_k».proof.Proof.Fast
public import proofs.«01_k».proof.Proof.Ranks
public import Idealize.ShloMosaic.Lib.Pipeline.ValueKit.Geometry

/-!
The whole arrays: what the grid writes, block by block, is what the reference computes.
-/

@[expose] public section

set_option maxRecDepth 16384

noncomputable section

namespace Cert.Proof.Knn

open Idealize.ShloMosaic Idealize.ShloMosaic.ValueIdx Idealize.ShloMosaic.TcCoe

section Reference
open Cert.ReferenceIdeal Cert.ReferenceIdeal.Gen

/-- The reference's first ten of each row, and their columns. -/
def firstTen (x : FVec Ideal S4x2048x8192 .f32) : FVec Ideal S4x2048x10 .f32 × IVec S4x2048x10 32 :=
  Host.topK S4x2048x10 2 (FloatOps.cmpfTotal .gt) x sliceFits_S4x2048x8192_S4x2048x10

theorem firstTen_at (x : FVec Ideal S4x2048x8192 .f32) (b : Fin 4) (i : Fin 2048) (p : Fin 10) :
    (firstTen x).1 (ix3 b i p) = refRow x b i (top (refRow x b i) p.val)
    ∧ (firstTen x).2 (ix3 b i p) = BitVec.ofNat 32 (top (refRow x b i) p.val).val := topK_at x _ b i p

/-- The first of a row is its greatest. -/
theorem firstTen_le (x : FVec Ideal S4x2048x8192 .f32) (b : Fin 4) (i : Fin 2048) (q : Fin 10) :
    (firstTen x).1 (ix3 b i q) ≤ (firstTen x).1 (ix3 b i 0) := by
  rw [(firstTen_at x b i q).1, (firstTen_at x b i 0).1]
  have hq := q.isLt
  rcases Nat.eq_zero_or_pos q.val with h | h
  · rw [h]; exact le_refl _
  · exact Beats.le (top_order _ (by omega) h)

theorem refSoft_firstTen (x : FVec Ideal S4x2048x8192 .f32) (b : Fin 4) (i : Fin 2048) (p : Fin 10) :
    refSoft (firstTen x).1 (ix3 b i p) = soft (fun q => refRow x b i (top (refRow x b i) q.val)) p :=
  (refSoft_at _ b i p (firstTen_le x b i)).trans (congrArg (fun v => soft v p) (funext fun q => (firstTen_at x b i q).1))

end Reference

open Cert.KernelIdeal Cert.KernelIdeal.Gen

variable (m : (ℓ : Loc nD τ sig) → Buf (Elt Ideal) ℓ) (c : Dev nD)

/-! ## The blocks -/

theorem index0 : ∀ t : Fin cfg0.N, win0_0.index t = ![t.val / 8, t.val % 8, 0] := (by decide +kernel : ∀ t : Fin grid0.N, _)
theorem index1 : ∀ t : Fin cfg0.N, win0_1.index t = ![t.val / 8, 0, 0] := (by decide +kernel : ∀ t : Fin grid0.N, _)
theorem index2 : ∀ t : Fin cfg0.N, win0_2.index t = ![t.val / 8, t.val % 8, 0] := (by decide +kernel : ∀ t : Fin grid0.N, _)
theorem index3 : ∀ t : Fin cfg0.N, win0_3.index t = ![t.val / 8, t.val % 8, 0] := (by decide +kernel : ∀ t : Fin grid0.N, _)

/-- A point's batch. -/
def batch (t : Fin cfg0.N) : Fin 4 := ⟨t.val / 8, by have h : t.val < 32 := t.isLt; omega⟩

/-- Row `r` of a point's block, in the array. -/
def place (t : Fin cfg0.N) (r : Fin 256) : Fin 2048 := ⟨t.val % 8 * 256 + r.val, by have h := r.isLt; omega⟩

/-- The first argument. -/
abbrev argX : FVec Ideal S4x2048x64 .f32 := m ((c.tc : Thread nD τ).loc main_arg0)
/-- The second. -/
abbrev argY : FVec Ideal S4x8192x64 .f32 := m ((c.tc : Thread nD τ).loc main_arg1)

theorem queries_at (t : Fin cfg0.N) (r : Fin 256) (e : Fin 64) :
    (iblk m c 0 t : Vec Ideal S1x256x64 .f32) (ix3 (0 : Fin 1) r e) = argX m c (ix3 (batch t) (place t r) e) := by
  refine congrArg (argX m c) (funext fun (a : Fin 3) => Fin.ext ?_)
  match a with
  | ⟨0, _⟩ => blk_simp [index0]; rfl
  | ⟨1, _⟩ => blk_simp [index0]; rfl
  | ⟨2, _⟩ => blk_simp [index0]

theorem points_at (t : Fin cfg0.N) (j : Fin 8192) (e : Fin 64) :
    (iblk m c 1 t : Vec Ideal S1x8192x64 .f32) (ix3 (0 : Fin 1) j e) = argY m c (ix3 (batch t) j e) := by
  refine congrArg (argY m c) (funext fun (a : Fin 3) => Fin.ext ?_)
  match a with
  | ⟨0, _⟩ => blk_simp [index1]; rfl
  | ⟨1, _⟩ => blk_simp [index1]
  | ⟨2, _⟩ => blk_simp [index1]

/-! ## A point's similarities are the reference's -/

theorem scores_ref (t : Fin cfg0.N) (r : Fin 256) (j : Fin 8192) :
    scores m c t (ix2 r j) = refSims (argX m c) (argY m c) (ix3 (batch t) (place t r) j) := by
  unfold scores keys
  rw [scores_at, refSims_at]
  unfold sim
  refine congrArg (fun z => Ideal.div z scale) (Finset.sum_congr rfl fun d _ => ?_)
  rw [keys_at]
  exact congrArg₂ (fun u v => unitRow u d * unitRow v d) (funext fun e => queries_at m c t r e) (funext fun e => points_at m c t j e)

/-- The row of a block a trip's row is. -/
def inBlock (u : Fin k0_t1_loop.trips) (r : Fin 32) : Fin 256 :=
  ⟨32 * u.val + r.val, by have h : u.val < 8 := trips_outer ▸ u.isLt; have h' := r.isLt; omega⟩

theorem rows_at (s : Vec Ideal S256x8192 .f32) (u : Fin k0_t1_loop.trips) (r : Fin 32) (k : Fin 8192) :
    rows s u (ix2 r k) = s (ix2 (inBlock u r) k) := by
  unfold rows
  refine congrArg s (funext fun (a : Fin 2) => Fin.ext ?_)
  match a with
  | ⟨0, _⟩ => exact (Rect.idx_unit_val _ _ _ _ _).trans (congrArg (· + r.val) (congrFun (rowsOff_eq u) 0))
  | ⟨1, _⟩ => exact (Rect.idx_unit_val _ _ _ _ _).trans ((congrArg (· + k.val) (congrFun (rowsOff_eq u) 1)).trans (Nat.zero_add _))

theorem rowOf_ref (t : Fin cfg0.N) (u : Fin k0_t1_loop.trips) (r : Fin 32) :
    rowOf (rows (scores m c t) u) r = refRow (refSims (argX m c) (argY m c)) (batch t) (place t (inBlock u r)) :=
  funext fun k => (rows_at _ u r k).trans (scores_ref m c t _ k)

theorem rows_ne_bot (t : Fin cfg0.N) (u : Fin k0_t1_loop.trips) (r : Fin 32) (k : Fin 8192) : rows (scores m c t) u (ix2 r k) ≠ ⊥ := by
  rw [rows_at, scores_ref, refSims_at]
  exact sim_ne_bot _ _

/-! ## A point's two blocks -/

/-- The row a block's entry was found in. -/
theorem rowOf_entry (t : Fin cfg0.N) (y : S1x256x10.Idx) : rowOf (rows (scores m c t) (tripOf y)) (inTrip y 1)
    = refRow (refSims (argX m c) (argY m c)) (batch t) (place t (y 1)) :=
  (rowOf_ref m c t (tripOf y) (inTrip y 1)).trans
    (congrArg (fun i => refRow (refSims (argX m c) (argY m c)) (batch t) (place t i)) (Fin.ext (Nat.div_add_mod (y 1).val 32)))

theorem outVals_ref (t : Fin cfg0.N) (y : S1x256x10.Idx) :
    outVals (scores m c t) y = refSoft (firstTen (refSims (argX m c) (argY m c))).1 (ix3 (batch t) (place t (y 1)) (y 2)) := by
  refine Eq.trans ?_ (refSoft_firstTen _ (batch t) (place t (y 1)) (y 2)).symm
  unfold outVals
  rw [eq_ix3 (inTrip y)]
  refine (shapeCast_ab_1ab_apply _ _ _ _ _).trans ?_
  refine (weights_at _ _ _).trans ?_
  refine congrArg (fun v => soft v (y 2)) (funext fun q => ?_)
  refine ((found_at _ _ (rows_ne_bot m c t (tripOf y)) _ q).1).trans ?_
  exact congrArg (fun w : Fin 8192 → EReal => w (top w q.val)) (rowOf_entry m c t y)

theorem outIdxs_ref (t : Fin cfg0.N) (y : S1x256x10.Idx) :
    outIdxs (scores m c t) y = (firstTen (refSims (argX m c) (argY m c))).2 (ix3 (batch t) (place t (y 1)) (y 2)) := by
  refine Eq.trans ?_ (firstTen_at _ (batch t) (place t (y 1)) (y 2)).2.symm
  unfold outIdxs
  rw [eq_ix3 (inTrip y)]
  refine (shapeCast_ab_1ab_apply _ _ _ _ _).trans ?_
  refine ((found_at _ _ (rows_ne_bot m c t (tripOf y)) _ _).2).trans ?_
  exact congrArg (fun w : Fin 8192 → EReal => BitVec.ofNat 32 (top w (y 2).val).val) (rowOf_entry m c t y)

/-! ## The two arrays -/

theorem emb2 (t : Fin cfg0.N) (y : S1x256x10.Idx) :
    (((cfg0.win 2).blk t).view.emb y : S4x2048x10.Idx) = ix3 (batch t) (place t (y 1)) (y 2) := by
  refine funext fun (a : Fin 3) => Fin.ext ?_
  match a with
  | ⟨0, _⟩ => blk_simp [index2]; rfl
  | ⟨1, _⟩ => blk_simp [index2]; rfl
  | ⟨2, _⟩ => blk_simp [index2]; rfl

theorem emb3 (t : Fin cfg0.N) (y : S1x256x10.Idx) :
    (((cfg0.win 3).blk t).view.emb y : S4x2048x10.Idx) = ix3 (batch t) (place t (y 1)) (y 2) := by
  refine funext fun (a : Fin 3) => Fin.ext ?_
  match a with
  | ⟨0, _⟩ => blk_simp [index3]; rfl
  | ⟨1, _⟩ => blk_simp [index3]; rfl
  | ⟨2, _⟩ => blk_simp [index3]; rfl

theorem array_vals : (dats m 0 c).arrAt 2 cfg0.N = (refSoft (firstTen (refSims (argX m c) (argY m c))).1 : Vec Ideal S4x2048x10 .f32) := by
  refine (dats m 0 c).arrAt_eq_of_covers 2 _ (by decide +kernel) fun t hf y => ?_
  rw [after0_2]
  exact (outVals_ref m c t y).trans (congrArg (refSoft _) (emb2 t y).symm)

theorem array_idxs : (dats m 0 c).arrAt 3 cfg0.N = ((firstTen (refSims (argX m c) (argY m c))).2 : Vec Ideal S4x2048x10 .i32) := by
  refine (dats m 0 c).arrAt_eq_of_covers 3 _ (by decide +kernel) fun t hf y => ?_
  rw [after0_3]
  exact (outIdxs_ref m c t y).trans (congrArg (firstTen _).2 (emb3 t y).symm)

/-! ## The lines after the grid -/

/-- The contents the later lines run on. -/
abbrev atExit : Valuation τ sig (Elt Ideal) := Pipeline.withArrays spec0 c (V0 m c) fun w => (dats m 0 c).arrAt w cfg0.N

theorem exit_vals : (atExit m c (Proc.devRef .tc main_v0_0) : Vec Ideal S4x2048x10 .f32) = refSoft (firstTen (refSims (argX m c) (argY m c))).1 :=
  (Pipeline.withArrays_arr spec0 launch0.win.arr_inj c (V0 m c) (fun w => (dats m 0 c).arrAt w cfg0.N) 2).trans (array_vals m c)

theorem exit_idxs : (atExit m c (Proc.devRef .tc main_v0_1) : Vec Ideal S4x2048x10 .i32) = (firstTen (refSims (argX m c) (argY m c))).2 :=
  (Pipeline.withArrays_arr spec0 launch0.win.arr_inj c (V0 m c) (fun w => (dats m 0 c).arrAt w cfg0.N) 3).trans (array_idxs m c)

theorem tail_vals : (Pipeline.afterTail₀ cfgs (dats m) 0 (V0 m) [hostOps1] c main_v1 : Vec Ideal S81920 .f32)
    = shapeCast S81920 (refSoft (firstTen (refSims (argX m c) (argY m c))).1) Facts₀.shapeCasts_S4x2048x10_S81920 := by
  rw [← exit_vals]
  show StableHlo.after hostOps1 (atExit m c) (Proc.devRef .tc main_v1) = _
  generalize atExit m c = W
  after_results_simp
  rfl

/-- The three rows of the second result. -/
def columns (v : Vec Ideal S4x2048x10 .i32) : Vec Ideal S3x81920 .i32 :=
  concatenate S3x81920 0
    [⟨S1x81920, broadcastInDim S1x81920 ![1] Facts₀.bcast_S81920_S1x81920_1 (shapeCast S81920 (broadcastInDim S4x20480 ![0] Facts₀.bcast_S4_S4x20480_0 (iotaInDim S4 32 0)) Facts₀.shapeCasts_S4x20480_S81920)⟩,
     ⟨S1x81920, broadcastInDim S1x81920 ![1] Facts₀.bcast_S81920_S1x81920_1 (shapeCast S81920 (broadcastInDim S4x20480 ![0, 1] Facts₀.bcast_S1x20480_S4x20480_0_1
        (shapeCast S1x20480 (shapeCast S20480 (broadcastInDim S2048x10 ![0] Facts₀.bcast_S2048_S2048x10_0 (iotaInDim S2048 32 0)) Facts₀.shapeCasts_S2048x10_S20480) Facts₀.shapeCasts_S20480_S1x20480)) Facts₀.shapeCasts_S4x20480_S81920)⟩,
     ⟨S1x81920, broadcastInDim S1x81920 ![1] Facts₀.bcast_S81920_S1x81920_1 (shapeCast S81920 v Facts₀.shapeCasts_S4x2048x10_S81920)⟩]
    Facts₀.concatenates_S1x81920_S1x81920_S1x81920_S3x81920_d0

theorem tail_idxs : (Pipeline.afterTail₀ cfgs (dats m) 0 (V0 m) [hostOps1] c main_v15 : Vec Ideal S3x81920 .i32)
    = columns (firstTen (refSims (argX m c) (argY m c))).2 := by
  rw [← exit_idxs]
  show StableHlo.after hostOps1 (atExit m c) (Proc.devRef .tc main_v15) = _
  generalize atExit m c = W
  unfold columns
  after_results_simp
  dsimp only [Matrix.cons_val]
  rfl

theorem vals_rest : main_v1 ∈ Pipeline.restRefs sig (cfgs 0).spec := by decide
theorem idxs_rest : main_v15 ∈ Pipeline.restRefs sig (cfgs 0).spec := by decide

end Cert.Proof.Knn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Result

/-! The certificate: the three frames, the equal results, and the claims put together. -/

@[expose] public section

set_option maxRecDepth 16384

noncomputable section

namespace Cert.Proof

open Idealize.ShloMosaic Idealize.SL.Sem

/-- The kernel over the extended reals runs and leaves its arguments and counters as they were. -/
theorem frame_ideal : Cert.quiescent_KernelIdeal := fun m ρ _ => Cert.Proof.Knn.run_frame m ρ

set_option backward.isDefEq.respectTransparency.types false in
/-- The kernel over float words: the same text, the same run. -/
theorem frame_kernel : Cert.quiescent_Kernel := fun m ρ _ => by
  rw [Cert.Proof.Knn.defs_same]
  exact (θ_run Cert.KernelIdeal.defs _ _).mono (fun _ h => h) (Cert.Proof.Knn.run_frame (F := Bits) m ρ)

/-- The reference runs and leaves its arguments and counters as they were; it has no counter. -/
theorem frame_ref : Cert.quiescent_ReferenceIdeal := fun m ρ _ =>
  (θ_run Cert.ReferenceIdeal.defs _ _).mono
    (fun _ h => ⟨fun c => ⟨(h c).2.2.1, (h c).2.2.2⟩, funext fun x => by cases x with | _ a b => exact nomatch b⟩) (Cert.ReferenceIdeal.Value.run m ρ)

set_option backward.isDefEq.respectTransparency.types false in
/-- From equal arguments the kernel's two results are the reference's, whatever the arguments hold. -/
theorem equal_results : Cert.algebraic_KernelIdeal_ReferenceIdeal := fun m ρ m' ρ' _ hargs => by
  have hx := fun c => (hargs c).1
  have hy := fun c => (hargs c).2
  refine ⟨fun c => shapeCast Cert.KernelIdeal.S81920 (Knn.refSoft (Knn.firstTen (Knn.refSims (Knn.argX m c) (Knn.argY m c))).1) Cert.KernelIdeal.Facts₀.shapeCasts_S4x2048x10_S81920,
    fun c => Knn.columns (Knn.firstTen (Knn.refSims (Knn.argX m c) (Knn.argY m c))).2, ?_, ?_⟩
  · refine (θ_run Cert.KernelIdeal.defs _ _).mono (fun _ h c => ⟨(h.1.rest_eq c _ Knn.vals_rest).trans (Knn.tail_vals m c),
      (h.1.rest_eq c _ Knn.idxs_rest).trans (Knn.tail_idxs m c), ?_, ?_⟩) (Knn.run_main m ρ)
    · exact (h.1.in_eq c 0 rfl).trans rfl
    · exact (h.1.in_eq c 1 rfl).trans rfl
  · refine (θ_run Cert.ReferenceIdeal.defs _ _).mono (fun _ h c => ⟨(h c).1.trans ((Knn.out_at m' c).trans ?_), (h c).2.1.trans ?_, (h c).2.2⟩) (Cert.ReferenceIdeal.Value.run m' ρ')
    · rw [hx c, hy c]; rfl
    · rw [hx c, hy c]; rfl

theorem claim : Cert.Claim := ⟨Cert.Kernel.Gen.facts, Cert.KernelIdeal.Gen.facts, Cert.ReferenceIdeal.Gen.facts,
  frame_kernel, frame_ideal, frame_ref, trivial, equal_results⟩

end Cert.Proof

end
